-- ==== Defs.lean ====
def Pre_Kernel [hPre_balanced_Kernel : Cert.Pre_balanced_Kernel.Facts] (m : (ℓ : Loc Cert.Kernel.nD Cert.Kernel.τ Cert.Kernel.sig) → Buf (Elt Bits) ℓ) : Prop :=
  ∀ c : Dev Cert.Kernel.nD,
    (Cert.Pre_balanced_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_balanced_Kernel : Cert.Pre_balanced_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_balanced_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_balanced_ReferenceIdeal [hPre_balanced_ReferenceIdeal : Cert.Pre_balanced_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_balanced_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_balanced_Kernel : Cert.Pre_balanced_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_balanced_ReferenceIdeal [hReferenceIdeal : Cert.ReferenceIdeal.Facts] [hPre_balanced_ReferenceIdeal : Cert.Pre_balanced_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_balanced_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![2048]⟩ ⟨1, ![8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_balanced_Kernel : Cert.Pre_balanced_Kernel.Facts) (hPre_balanced_ReferenceIdeal : Cert.Pre_balanced_ReferenceIdeal.Facts),
    quiescent_Kernel (hKernel := hKernel) (hPre_balanced_Kernel := hPre_balanced_Kernel)
    ∧ quiescent_KernelIdeal (hKernelIdeal := hKernelIdeal) (hPre_balanced_Kernel := hPre_balanced_Kernel)
    ∧ quiescent_ReferenceIdeal (hReferenceIdeal := hReferenceIdeal)
    ∧ quiescent_ReferenceIdeal_pre_balanced_ReferenceIdeal (hReferenceIdeal := hReferenceIdeal) (hPre_balanced_ReferenceIdeal := hPre_balanced_ReferenceIdeal)
    ∧ preserves_Kernel_KernelIdeal
    ∧ algebraic_KernelIdeal_ReferenceIdeal (hKernelIdeal := hKernelIdeal) (hReferenceIdeal := hReferenceIdeal) (hPre_balanced_Kernel := hPre_balanced_Kernel)
-- ==== Pre_balanced_Kernel.lean ====
abbrev S2048x1024 : Shape := ⟨2, ![2048, 1024]⟩
abbrev S2048 : Shape := ⟨1, ![2048]⟩
abbrev S_ : Shape := ⟨0, ![]⟩
abbrev S1 : Shape := ⟨1, ![1]⟩
abbrev S4 : Shape := ⟨1, ![4]⟩

class Facts : Prop where
  bcast_S_S2048 : S_.BroadcastsInDim S2048 (![] : Fin 0 → Fin S2048.rank)
  natLt_1_32 : 1 < 32
  reducesTo_S2048_S_d0 : S2048.ReducesTo [0] S_
  h_S_ : 0 < S_.numel
  bcast_S_S1 : S_.BroadcastsInDim S1 (![] : Fin 0 → Fin S1.rank)
  concatenates_S1_S1_S1_S1_S4_d0 : Shape.Concatenates [S1, S1, S1, S1] S4 0

variable [Facts]

def fn_part1 {F : FTy → Type} [FloatOps F] (main_arg1 : IVec S2048 32) (main_v4 : IVec S_ 1) (main_v9 : IVec S_ 1) (main_v14 : IVec S_ 1) : IVec S4 1 :=
  let main_c_8 : IVec S_ 32 := constantI S_ 32 3#32
  let main_v15 : IVec S2048 32 := broadcastInDim S2048 ![] bcast_S_S2048 main_c_8
  let main_v16 : IVec S2048 1 := cmpi .eq main_arg1 main_v15
  let main_v17 : IVec S2048 32 := (extui 32 · natLt_1_32) main_v16
  let main_c_9 : IVec S_ 32 := constantI S_ 32 0#32
  let main_v18 : IVec S_ 32 := (fun x v => Host.reduce IntOp.addi x v reducesTo_S2048_S_d0 h_S_) main_v17 main_c_9
  let main_c_10 : IVec S_ 32 := constantI S_ 32 512#32
  let main_v19 : IVec S_ 1 := cmpi .eq main_v18 main_c_10
  let main_v20 : IVec S1 1 := broadcastInDim S1 ![] bcast_S_S1 main_v4
  let main_v21 : IVec S1 1 := broadcastInDim S1 ![] bcast_S_S1 main_v9
  let main_v22 : IVec S1 1 := broadcastInDim S1 ![] bcast_S_S1 main_v14
  let main_v23 : IVec S1 1 := broadcastInDim S1 ![] bcast_S_S1 main_v19
  let main_v24 : IVec S4 1 := concatenate S4 0 [⟨S1, main_v20⟩, ⟨S1, main_v21⟩, ⟨S1, main_v22⟩, ⟨S1, main_v23⟩] concatenates_S1_S1_S1_S1_S4_d0
  main_v24

def fn {F : FTy → Type} [FloatOps F] (main_arg0 : FVec F S2048x1024 .f32) (main_arg1 : IVec S2048 32) : IVec S4 1 :=
  let main_c : IVec S_ 32 := constantI S_ 32 0#32
  let main_v0 : IVec S2048 32 := broadcastInDim S2048 ![] bcast_S_S2048 main_c
  let main_v1 : IVec S2048 1 := cmpi .eq main_arg1 main_v0
  let main_v2 : IVec S2048 32 := (extui 32 · natLt_1_32) main_v1
  let main_c_0 : IVec S_ 32 := constantI S_ 32 0#32
  let main_v3 : IVec S_ 32 := (fun x v => Host.reduce IntOp.addi x v reducesTo_S2048_S_d0 h_S_) main_v2 main_c_0
  let main_c_1 : IVec S_ 32 := constantI S_ 32 512#32
  let main_v4 : IVec S_ 1 := cmpi .eq main_v3 main_c_1
  let main_c_2 : IVec S_ 32 := constantI S_ 32 1#32
  let main_v5 : IVec S2048 32 := broadcastInDim S2048 ![] bcast_S_S2048 main_c_2
  let main_v6 : IVec S2048 1 := cmpi .eq main_arg1 main_v5
  let main_v7 : IVec S2048 32 := (extui 32 · natLt_1_32) main_v6
  let main_c_3 : IVec S_ 32 := constantI S_ 32 0#32
  let main_v8 : IVec S_ 32 := (fun x v => Host.reduce IntOp.addi x v reducesTo_S2048_S_d0 h_S_) main_v7 main_c_3
  let main_c_4 : IVec S_ 32 := constantI S_ 32 512#32
  let main_v9 : IVec S_ 1 := cmpi .eq main_v8 main_c_4
  let main_c_5 : IVec S_ 32 := constantI S_ 32 2#32
  let main_v10 : IVec S2048 32 := broadcastInDim S2048 ![] bcast_S_S2048 main_c_5
  let main_v11 : IVec S2048 1 := cmpi .eq main_arg1 main_v10
  let main_v12 : IVec S2048 32 := (extui 32 · natLt_1_32) main_v11
  let main_c_6 : IVec S_ 32 := constantI S_ 32 0#32
  let main_v13 : IVec S_ 32 := (fun x v => Host.reduce IntOp.addi x v reducesTo_S2048_S_d0 h_S_) main_v12 main_c_6
  let main_c_7 : IVec S_ 32 := constantI S_ 32 512#32
  let main_v14 : IVec S_ 1 := cmpi .eq main_v13 main_c_7
  fn_part1 (F := F) main_arg1 main_v4 main_v9 main_v14
-- ==== Pre_balanced_ReferenceIdeal.lean ====
abbrev S8192x1024 : Shape := ⟨2, ![8192, 1024]⟩
abbrev S8192 : Shape := ⟨1, ![8192]⟩
abbrev S_ : Shape := ⟨0, ![]⟩
abbrev S1 : Shape := ⟨1, ![1]⟩
abbrev S4 : Shape := ⟨1, ![4]⟩

class Facts : Prop where
  bcast_S_S8192 : S_.BroadcastsInDim S8192 (![] : Fin 0 → Fin S8192.rank)
  natLt_1_32 : 1 < 32
  reducesTo_S8192_S_d0 : S8192.ReducesTo [0] S_
  h_S_ : 0 < S_.numel
  bcast_S_S1 : S_.BroadcastsInDim S1 (![] : Fin 0 → Fin S1.rank)
  concatenates_S1_S1_S1_S1_S4_d0 : Shape.Concatenates [S1, S1, S1, S1] S4 0

variable [Facts]

def fn_part1 {F : FTy → Type} [FloatOps F] (main_arg1 : IVec S8192 32) (main_v4 : IVec S_ 1) (main_v9 : IVec S_ 1) (main_v14 : IVec S_ 1) : IVec S4 1 :=
  let main_c_8 : IVec S_ 32 := constantI S_ 32 3#32
  let main_v15 : IVec S8192 32 := broadcastInDim S8192 ![] bcast_S_S8192 main_c_8
  let main_v16 : IVec S8192 1 := cmpi .eq main_arg1 main_v15
  let main_v17 : IVec S8192 32 := (extui 32 · natLt_1_32) main_v16
  let main_c_9 : IVec S_ 32 := constantI S_ 32 0#32
  let main_v18 : IVec S_ 32 := (fun x v => Host.reduce IntOp.addi x v reducesTo_S8192_S_d0 h_S_) main_v17 main_c_9
  let main_c_10 : IVec S_ 32 := constantI S_ 32 2048#32
  let main_v19 : IVec S_ 1 := cmpi .eq main_v18 main_c_10
  let main_v20 : IVec S1 1 := broadcastInDim S1 ![] bcast_S_S1 main_v4
  let main_v21 : IVec S1 1 := broadcastInDim S1 ![] bcast_S_S1 main_v9
  let main_v22 : IVec S1 1 := broadcastInDim S1 ![] bcast_S_S1 main_v14
  let main_v23 : IVec S1 1 := broadcastInDim S1 ![] bcast_S_S1 main_v19
  let main_v24 : IVec S4 1 := concatenate S4 0 [⟨S1, main_v20⟩, ⟨S1, main_v21⟩, ⟨S1, main_v22⟩, ⟨S1, main_v23⟩] concatenates_S1_S1_S1_S1_S4_d0
  main_v24

def fn {F : FTy → Type} [FloatOps F] (main_arg0 : FVec F S8192x1024 .f32) (main_arg1 : IVec S8192 32) : IVec S4 1 :=
  let main_c : IVec S_ 32 := constantI S_ 32 0#32
  let main_v0 : IVec S8192 32 := broadcastInDim S8192 ![] bcast_S_S8192 main_c
  let main_v1 : IVec S8192 1 := cmpi .eq main_arg1 main_v0
  let main_v2 : IVec S8192 32 := (extui 32 · natLt_1_32) main_v1
  let main_c_0 : IVec S_ 32 := constantI S_ 32 0#32
  let main_v3 : IVec S_ 32 := (fun x v => Host.reduce IntOp.addi x v reducesTo_S8192_S_d0 h_S_) main_v2 main_c_0
  let main_c_1 : IVec S_ 32 := constantI S_ 32 2048#32
  let main_v4 : IVec S_ 1 := cmpi .eq main_v3 main_c_1
  let main_c_2 : IVec S_ 32 := constantI S_ 32 1#32
  let main_v5 : IVec S8192 32 := broadcastInDim S8192 ![] bcast_S_S8192 main_c_2
  let main_v6 : IVec S8192 1 := cmpi .eq main_arg1 main_v5
  let main_v7 : IVec S8192 32 := (extui 32 · natLt_1_32) main_v6
  let main_c_3 : IVec S_ 32 := constantI S_ 32 0#32
  let main_v8 : IVec S_ 32 := (fun x v => Host.reduce IntOp.addi x v reducesTo_S8192_S_d0 h_S_) main_v7 main_c_3
  let main_c_4 : IVec S_ 32 := constantI S_ 32 2048#32
  let main_v9 : IVec S_ 1 := cmpi .eq main_v8 main_c_4
  let main_c_5 : IVec S_ 32 := constantI S_ 32 2#32
  let main_v10 : IVec S8192 32 := broadcastInDim S8192 ![] bcast_S_S8192 main_c_5
  let main_v11 : IVec S8192 1 := cmpi .eq main_arg1 main_v10
  let main_v12 : IVec S8192 32 := (extui 32 · natLt_1_32) main_v11
  let main_c_6 : IVec S_ 32 := constantI S_ 32 0#32
  let main_v13 : IVec S_ 32 := (fun x v => Host.reduce IntOp.addi x v reducesTo_S8192_S_d0 h_S_) main_v12 main_c_6
  let main_c_7 : IVec S_ 32 := constantI S_ 32 2048#32
  let main_v14 : IVec S_ 1 := cmpi .eq main_v13 main_c_7
  fn_part1 (F := F) main_arg1 main_v4 main_v9 main_v14
-- ==== Kernel.lean ====
abbrev S2048x1024 : Shape := ⟨2, ![2048, 1024]⟩
abbrev S2048 : Shape := ⟨1, ![2048]⟩
abbrev S2048x1 : Shape := ⟨2, ![2048, 1]⟩
abbrev S4 : Shape := ⟨1, ![4]⟩
abbrev S1x4 : Shape := ⟨2, ![1, 4]⟩
abbrev S2048x4 : Shape := ⟨2, ![2048, 4]⟩
abbrev S_ : Shape := ⟨0, ![]⟩
abbrev S4x8x128 : Shape := ⟨3, ![4, 8, 128]⟩
abbrev S3 : Shape := ⟨1, ![3]⟩
abbrev S8x128 : Shape := ⟨2, ![8, 128]⟩
abbrev S1 : Shape := ⟨1, ![1]⟩
abbrev S1x8x128 : Shape := ⟨3, ![1, 8, 128]⟩
abbrev S1x1x1 : Shape := ⟨3, ![1, 1, 1]⟩
abbrev S1x1024 : Shape := ⟨2, ![1, 1024]⟩

abbrev nBuf : Space → Nat
  | .hbm => 12
  | .vmem => 3
  | .smem => 5
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S2048x1, .i32⟩
  | .hbm, ⟨3, _⟩ => ⟨S4, .i32⟩
  | .hbm, ⟨4, _⟩ => ⟨S1x4, .i32⟩
  | .hbm, ⟨5, _⟩ => ⟨S2048x4, .i32⟩
  | .hbm, ⟨6, _⟩ => ⟨S2048x4, .i32⟩
  | .hbm, ⟨7, _⟩ => ⟨S2048x4, .i1⟩
  | .hbm, ⟨8, _⟩ => ⟨S2048x4, .i32⟩
  | .hbm, ⟨9, _⟩ => ⟨S_, .i32⟩
  | .hbm, ⟨10, _⟩ => ⟨S4, .i32⟩
  | .hbm, ⟨11, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S4x8x128, .i32⟩
  | .local _ .smem, ⟨0, _⟩ => ⟨S2048, .i32⟩
  | .local _ .smem, ⟨1, _⟩ => ⟨S4, .i32⟩
  | .local _ .smem, ⟨2, _⟩ => ⟨S4x8x128, .i32⟩
  | .local _ .smem, ⟨3, _⟩ => ⟨S4, .i32⟩
  | .local _ .smem, ⟨4, _⟩ => ⟨S4, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_stg1_0 : Ref sig .tc := ⟨.smem, 0, rfl⟩
abbrev cc0_stg2_0 : Ref sig .tc := ⟨.smem, 1, rfl⟩
abbrev cc0_scratch1 : Ref sig .tc := ⟨.smem, 2, rfl⟩
abbrev cc0_scratch2 : Ref sig .tc := ⟨.smem, 3, rfl⟩
abbrev cc0_scratch3 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v78 : Index := Scalar.indexCast v2
  let c0_37 : Index := 0#32
  let c0_38 : Index := 0#32
  ![v78.toNat, 0, 0]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_49 : BitVec 32 := 0#32
  let c0_i32_50 : BitVec 32 := 0#32
  ![v2.toNat, 0, 0]
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_39 : BitVec 32 := 1#32
  let v82 : BitVec 32 := Scalar.addi v2 c1_i32_39
  let c4_i32_40 : BitVec 32 := 4#32
  let c0_i32_41 : BitVec 32 := 0#32
  let v83 : BitVec 1 := Scalar.cmpi .eq c4_i32_40 c0_i32_41
  let c1_i32_42 : BitVec 32 := 1#32
  let v84 : BitVec 32 := Scalar.select v83 c1_i32_42 c4_i32_40
  let v85 : BitVec 32 := Scalar.remsi v82 v84
  let c0_i32_44 : BitVec 32 := 0#32
  let v87 : BitVec 1 := Scalar.cmpi .slt v85 c0_i32_44
  let c0_i32_45 : BitVec 32 := 0#32
  let v88 : BitVec 1 := Scalar.cmpi .slt v84 c0_i32_45
  let v89 : BitVec 1 := Scalar.xori v87 v88
  let c0_i32_43 : BitVec 32 := 0#32
  let v86 : BitVec 1 := Scalar.cmpi .ne v85 c0_i32_43
  let v90 : BitVec 1 := Scalar.andi v89 v86
  let v91 : BitVec 32 := Scalar.addi v85 v84
  let v92 : BitVec 32 := Scalar.select v90 v91 v85
  let c1_i32_47 : BitVec 32 := 1#32
  let v93 : BitVec 32 := Scalar.muli v92 c1_i32_47
  let v94 : BitVec 32 := Scalar.addi c0_i32_48 v93
  v94.toNat
def k0_dev5 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_53 : BitVec 32 := 2#32
  let v103 : BitVec 32 := Scalar.addi v2 c2_i32_53
  let c4_i32_54 : BitVec 32 := 4#32
  let c0_i32_55 : BitVec 32 := 0#32
  let v104 : BitVec 1 := Scalar.cmpi .eq c4_i32_54 c0_i32_55
  let c1_i32_56 : BitVec 32 := 1#32
  let v105 : BitVec 32 := Scalar.select v104 c1_i32_56 c4_i32_54
  let v106 : BitVec 32 := Scalar.remsi v103 v105
  let c0_i32_58 : BitVec 32 := 0#32
  let v108 : BitVec 1 := Scalar.cmpi .slt v106 c0_i32_58
  let c0_i32_59 : BitVec 32 := 0#32
  let v109 : BitVec 1 := Scalar.cmpi .slt v105 c0_i32_59
  let v110 : BitVec 1 := Scalar.xori v108 v109
  let c0_i32_57 : BitVec 32 := 0#32
  let v107 : BitVec 1 := Scalar.cmpi .ne v106 c0_i32_57
  let v111 : BitVec 1 := Scalar.andi v110 v107
  let v112 : BitVec 32 := Scalar.addi v106 v105
  let v113 : BitVec 32 := Scalar.select v111 v112 v106
  let c1_i32_61 : BitVec 32 := 1#32
  let v114 : BitVec 32 := Scalar.muli v113 c1_i32_61
  let v115 : BitVec 32 := Scalar.addi c0_i32_62 v114
  v115.toNat
def k0_dev6 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_67 : BitVec 32 := 3#32
  let v124 : BitVec 32 := Scalar.addi v2 c3_i32_67
  let c4_i32_68 : BitVec 32 := 4#32
  let c0_i32_69 : BitVec 32 := 0#32
  let v125 : BitVec 1 := Scalar.cmpi .eq c4_i32_68 c0_i32_69
  let c1_i32_70 : BitVec 32 := 1#32
  let v126 : BitVec 32 := Scalar.select v125 c1_i32_70 c4_i32_68
  let v127 : BitVec 32 := Scalar.remsi v124 v126
  let c0_i32_72 : BitVec 32 := 0#32
  let v129 : BitVec 1 := Scalar.cmpi .slt v127 c0_i32_72
  let c0_i32_73 : BitVec 32 := 0#32
  let v130 : BitVec 1 := Scalar.cmpi .slt v126 c0_i32_73
  let v131 : BitVec 1 := Scalar.xori v129 v130
  let c0_i32_71 : BitVec 32 := 0#32
  let v128 : BitVec 1 := Scalar.cmpi .ne v127 c0_i32_71
  let v132 : BitVec 1 := Scalar.andi v131 v128
  let v133 : BitVec 32 := Scalar.addi v127 v126
  let v134 : BitVec 32 := Scalar.select v132 v133 v127
  let c1_i32_75 : BitVec 32 := 1#32
  let v135 : BitVec 32 := Scalar.muli v134 c1_i32_75
  let v136 : BitVec 32 := Scalar.addi c0_i32_76 v135
  v136.toNat
def k0_off4 (d0 : Dev nD) (c1_i32_81 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v145 : BitVec 32 := Scalar.subi v2 c1_i32_81
  let c4_i32_82 : BitVec 32 := 4#32
  let c0_i32_83 : BitVec 32 := 0#32
  let v146 : BitVec 1 := Scalar.cmpi .eq c4_i32_82 c0_i32_83
  let c1_i32_84 : BitVec 32 := 1#32
  let v147 : BitVec 32 := Scalar.select v146 c1_i32_84 c4_i32_82
  let v148 : BitVec 32 := Scalar.remsi v145 v147
  let c0_i32_86 : BitVec 32 := 0#32
  let v150 : BitVec 1 := Scalar.cmpi .slt v148 c0_i32_86
  let c0_i32_87 : BitVec 32 := 0#32
  let v151 : BitVec 1 := Scalar.cmpi .slt v147 c0_i32_87
  let v152 : BitVec 1 := Scalar.xori v150 v151
  let c0_i32_85 : BitVec 32 := 0#32
  let v149 : BitVec 1 := Scalar.cmpi .ne v148 c0_i32_85
  let v153 : BitVec 1 := Scalar.andi v152 v149
  let v154 : BitVec 32 := Scalar.addi v148 v147
  let v155 : BitVec 32 := Scalar.select v153 v154 v148
  let c0_i32_92 : BitVec 32 := 0#32
  let c0_i32_93 : BitVec 32 := 0#32
  ![v155.toNat, 0, 0]
def k0_off5 (d0 : Dev nD) (c1_i32_81 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v145 : BitVec 32 := Scalar.subi v2 c1_i32_81
  let c4_i32_82 : BitVec 32 := 4#32
  let c0_i32_83 : BitVec 32 := 0#32
  let v146 : BitVec 1 := Scalar.cmpi .eq c4_i32_82 c0_i32_83
  let c1_i32_84 : BitVec 32 := 1#32
  let v147 : BitVec 32 := Scalar.select v146 c1_i32_84 c4_i32_82
  let v148 : BitVec 32 := Scalar.remsi v145 v147
  let c0_i32_86 : BitVec 32 := 0#32
  let v150 : BitVec 1 := Scalar.cmpi .slt v148 c0_i32_86
  let c0_i32_87 : BitVec 32 := 0#32
  let v151 : BitVec 1 := Scalar.cmpi .slt v147 c0_i32_87
  let v152 : BitVec 1 := Scalar.xori v150 v151
  let c0_i32_85 : BitVec 32 := 0#32
  let v149 : BitVec 1 := Scalar.cmpi .ne v148 c0_i32_85
  let v153 : BitVec 1 := Scalar.andi v152 v149
  let v154 : BitVec 32 := Scalar.addi v148 v147
  let v155 : BitVec 32 := Scalar.select v153 v154 v148
  ![v155.toNat]
@[reducible] def k0_t1_loop : Scf.Loop 32 :=
  let c0_i32_237 : BitVec 32 := 0#32
  let c2048_i32 : BitVec 32 := 2048#32
  let v292 : BitVec 32 := Scalar.addi c0_i32_237 c2048_i32
  let c1_i32_238 : BitVec 32 := 1#32
  ⟨c0_i32_237, v292, c1_i32_238⟩
def k0_off6 (k0_t1 : Fin k0_t1_loop.trips) : Fin 1 → Nat :=
  let c0_i32_237 : BitVec 32 := 0#32
  let c1_i32_238 : BitVec 32 := 1#32
  let arg13 : BitVec 32 := Scf.iv c0_i32_237 c1_i32_238 k0_t1
  let v303 : Index := Scalar.indexCast arg13
  ![v303.toNat]
def k0_off7 (v304 : BitVec 32) : Fin 1 → Nat :=
  let v305 : Index := Scalar.indexCast v304
  ![v305.toNat]

def k0_off8 (v306 : BitVec 32) (v308 : BitVec 32) : Fin 2 → Nat :=
  let v309 : BitVec 32 := Scalar.addi v308 v306
  let c0_i32_254 : BitVec 32 := 0#32
  ![v309.toNat, 0]
def k0_cond1 (d0 : Dev nD) (v304 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v313 : BitVec 1 := Scalar.cmpi .ne v304 v2
  let v314 : BitVec 32 := Scalar.extui v313
  let c0_i32_251 : BitVec 32 := 0#32
  let v315 : BitVec 1 := Scalar.cmpi .ne v314 c0_i32_251
  v315

def k0_chk2 (d0 : Dev nD) (v304 : BitVec 32) (v306 : BitVec 32) (v308 : BitVec 32) : Prop :=
  (∀ (k0_h1 : k0_cond1 d0 v304 = 1#1), ∀ a, (k0_off8 v306 v308) a + S1x1024.size a ≤ S2048x1024.size a)
theorem k0_off8_inb : ∀ (d0 : Dev nD) (v304 : BitVec 32) (v306 : BitVec 32) (v308 : BitVec 32) (k0_hw2 : k0_chk2 d0 v304 v306 v308), ∀ (k0_h1 : k0_cond1 d0 v304 = 1#1), ∀ a, (k0_off8 v306 v308) a + S1x1024.size a ≤ S2048x1024.size a := fun d0 v304 v306 v308 k0_hw2 k0_h1 => k0_hw2 k0_h1

def k0_off9 (k0_t1 : Fin k0_t1_loop.trips) : Fin 2 → Nat :=
  let c0_i32_237 : BitVec 32 := 0#32
  let c1_i32_238 : BitVec 32 := 1#32
  let arg13 : BitVec 32 := Scf.iv c0_i32_237 c1_i32_238 k0_t1
  let c0_i32_255 : BitVec 32 := 0#32
  ![arg13.toNat, 0]
def k0_dev7 (v304 : BitVec 32) : Nat :=
  let c0_i32_253 : BitVec 32 := 0#32
  let c1_i32_252 : BitVec 32 := 1#32
  let v316 : BitVec 32 := Scalar.muli v304 c1_i32_252
  let v317 : BitVec 32 := Scalar.addi c0_i32_253 v316
  v317.toNat

def k0_chk1 (d0 : Dev nD) (v304 : BitVec 32) : Prop :=
  (∀ a, (k0_off7 v304) a + S1.size a ≤ S4.size a) ∧
  (∀ (k0_h1 : k0_cond1 d0 v304 = 1#1), (k0_dev7 v304) < nD)
theorem k0_off7_inb : ∀ (d0 : Dev nD) (v304 : BitVec 32) (k0_hw1 : k0_chk1 d0 v304), ∀ a, (k0_off7 v304) a + S1.size a ≤ S4.size a := fun d0 v304 k0_hw1 => k0_hw1.1
theorem k0_dev7_lt : ∀ (d0 : Dev nD) (v304 : BitVec 32) (k0_hw1 : k0_chk1 d0 v304), ∀ (k0_h1 : k0_cond1 d0 v304 = 1#1), (k0_dev7 v304) < nD := fun d0 v304 k0_hw1 k0_h1 => k0_hw1.2 k0_h1

@[reducible] def k0_t2_loop : Scf.Loop 32 :=
  let c0_i32_241 : BitVec 32 := 0#32
  let c2048_i32_242 : BitVec 32 := 2048#32
  let v293 : BitVec 32 := Scalar.addi c0_i32_241 c2048_i32_242
  let c1_i32_243 : BitVec 32 := 1#32
  ⟨c0_i32_241, v293, c1_i32_243⟩
def k0_off10 (k0_t2 : Fin k0_t2_loop.trips) : Fin 1 → Nat :=
  let c0_i32_241 : BitVec 32 := 0#32
  let c1_i32_243 : BitVec 32 := 1#32
  let arg13 : BitVec 32 := Scf.iv c0_i32_241 c1_i32_243 k0_t2
  let v303 : Index := Scalar.indexCast arg13
  ![v303.toNat]
def k0_off11 (k0_t2 : Fin k0_t2_loop.trips) : Fin 2 → Nat :=
  let c0_i32_241 : BitVec 32 := 0#32
  let c1_i32_243 : BitVec 32 := 1#32
  let arg13 : BitVec 32 := Scf.iv c0_i32_241 c1_i32_243 k0_t2
  let v311 : Index := Scalar.indexCast arg13
  let c0_253 : Index := 0#32
  ![v311.toNat, 0]
def k0_off12 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v314 : Index := Scalar.indexCast v2
  ![v314.toNat]
def k0_off13 (arg14 : BitVec 32) (v315 : BitVec 32) : Fin 2 → Nat :=
  let v316 : BitVec 32 := Scalar.addi v315 arg14
  let v317 : Index := Scalar.indexCast v316
  let c0_254 : Index := 0#32
  ![v317.toNat, 0]
def k0_cond2 (d0 : Dev nD) (v304 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v305 : BitVec 1 := Scalar.cmpi .eq v304 v2
  let v306 : BitVec 32 := Scalar.extui v305
  let c0_i32_250 : BitVec 32 := 0#32
  let v307 : BitVec 1 := Scalar.cmpi .ne v306 c0_i32_250
  v307

def k0_chk3 (d0 : Dev nD) (arg14 : BitVec 32) (v304 : BitVec 32) (v315 : BitVec 32) : Prop :=
  (∀ (k0_h2 : k0_cond2 d0 v304 = 1#1), ∀ a, (k0_off13 arg14 v315) a + S1x1024.size a ≤ S2048x1024.size a)
theorem k0_off13_inb : ∀ (d0 : Dev nD) (arg14 : BitVec 32) (v304 : BitVec 32) (v315 : BitVec 32) (k0_hw3 : k0_chk3 d0 arg14 v304 v315), ∀ (k0_h2 : k0_cond2 d0 v304 = 1#1), ∀ a, (k0_off13 arg14 v315) a + S1x1024.size a ≤ S2048x1024.size a := fun d0 arg14 v304 v315 k0_hw3 k0_h2 => k0_hw3 k0_h2

def k0_off14 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v295 : Index := Scalar.indexCast v2
  ![v295.toNat]
@[reducible] def k0_t3_loop (v296 : BitVec 32) : Scf.Loop 32 :=
  let c0_i32_246 : BitVec 32 := 0#32
  let c2048_i32_245 : BitVec 32 := 2048#32
  let v297 : BitVec 32 := Scalar.subi c2048_i32_245 v296
  let v298 : BitVec 32 := Scalar.subi v297 c0_i32_246
  let c1_i32_247 : BitVec 32 := 1#32
  let v300 : BitVec 32 := Scalar.divsi v298 c1_i32_247
  let v301 : BitVec 32 := Scalar.muli v300 c1_i32_247
  let v302 : BitVec 32 := Scalar.addi c0_i32_246 v301
  let c1_i32_248 : BitVec 32 := 1#32
  ⟨c0_i32_246, v302, c1_i32_248⟩

@[reducible] def k0_t4_loop (v296 : BitVec 32) : Scf.Loop 32 :=
  let c0_i32_246 : BitVec 32 := 0#32
  let c2048_i32_245 : BitVec 32 := 2048#32
  let v297 : BitVec 32 := Scalar.subi c2048_i32_245 v296
  let v298 : BitVec 32 := Scalar.subi v297 c0_i32_246
  let c1_i32_247 : BitVec 32 := 1#32
  let v300 : BitVec 32 := Scalar.divsi v298 c1_i32_247
  let v301 : BitVec 32 := Scalar.muli v300 c1_i32_247
  let v302 : BitVec 32 := Scalar.addi c0_i32_246 v301
  let v299 : BitVec 32 := Scalar.addi c0_i32_246 v298
  let c1_i32_249 : BitVec 32 := 1#32
  ⟨v302, v299, c1_i32_249⟩

def k0_chk4 (v296 : BitVec 32) : Prop :=
  ((k0_t3_loop v296).OK) ∧
  ((k0_t4_loop v296).OK)
theorem k0_t3_ok : ∀ (v296 : BitVec 32) (k0_hw4 : k0_chk4 v296), (k0_t3_loop v296).OK := fun v296 k0_hw4 => k0_hw4.1
theorem k0_t4_ok : ∀ (v296 : BitVec 32) (k0_hw4 : k0_chk4 v296), (k0_t4_loop v296).OK := fun v296 k0_hw4 => k0_hw4.2

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S4 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Data.lean ====
/-
  The arithmetic of the exchange: which rows a device sends where, and where they land.
-/
module

public import proofs.«01_k».proof.Proof.Gen.KernelIdeal

@[expose] public section

namespace Cert.KernelIdeal.Own

open Idealize.ShloMosaic
open Finset (univ filter card)

/-! ## Counting the rows of one device by destination -/

/-- How many of the rows before row `t` go to device `k`. -/
def before (d : Fin 2048 → Fin 4) (k : Fin 4) (t : ℕ) : ℕ :=
  (univ.filter fun r : Fin 2048 => r.val < t ∧ d r = k).card

/-- No row lies before row 0. -/
theorem before_zero (d : Fin 2048 → Fin 4) (k : Fin 4) : before d k 0 = 0 := by
  simp [before]

/-- One row further, the count of the row's own destination rises by one and the others stay. -/
theorem before_succ (d : Fin 2048 → Fin 4) (k : Fin 4) (r : Fin 2048) :
    before d k (r.val + 1) = before d k r.val + if d r = k then 1 else 0 := by
  unfold before
  have e : (univ.filter fun s : Fin 2048 => s.val < r.val + 1 ∧ d s = k)
      = (univ.filter fun s : Fin 2048 => s.val < r.val ∧ d s = k)
        ∪ if d r = k then {r} else ∅ := by
    ext s
    by_cases h : d r = k
    · simp only [h, if_true, Finset.mem_filter, Finset.mem_univ, true_and, Finset.mem_union,
        Finset.mem_singleton]
      constructor
      · rintro ⟨h1, h2⟩
        by_cases h3 : s.val = r.val
        · exact Or.inr (Fin.ext h3)
        · exact Or.inl ⟨by omega, h2⟩
      · rintro (⟨h1, h2⟩ | h1)
        · exact ⟨by omega, h2⟩
        · subst h1
          exact ⟨by omega, h⟩
    · simp only [h, if_false, Finset.mem_filter, Finset.mem_univ, true_and, Finset.union_empty]
      constructor
      · rintro ⟨h1, h2⟩
        refine ⟨?_, h2⟩
        by_contra h3
        have : s = r := Fin.ext (by omega)
        subst this
        exact h h2
      · rintro ⟨h1, h2⟩
        exact ⟨by omega, h2⟩
  rw [e, Finset.card_union_of_disjoint]
  · by_cases h : d r = k <;> simp [h]
  · by_cases h : d r = k <;> simp [h]

/-- The counts grow with the row. -/
theorem before_mono (d : Fin 2048 → Fin 4) (k : Fin 4) {s t : ℕ} (h : s ≤ t) :
    before d k s ≤ before d k t := by
  apply Finset.card_le_card
  intro r
  simp only [Finset.mem_filter, Finset.mem_univ, true_and]
  exact fun ⟨h1, h2⟩ => ⟨by omega, h2⟩

/-- The position of row `r` among the rows with its destination. -/
def rank (d : Fin 2048 → Fin 4) (r : Fin 2048) : ℕ := before d (d r) r.val

/-- Of two rows with one destination the earlier has the smaller position. -/
theorem rank_lt_rank {d : Fin 2048 → Fin 4} {r s : Fin 2048} (h : d r = d s) (hlt : r < s) :
    rank d r < rank d s := by
  have h1 : before d (d s) (r.val + 1) ≤ before d (d s) s.val := before_mono d _ hlt
  rw [before_succ, if_pos h] at h1
  unfold rank
  rw [h]
  omega

/-- Rows with one destination and one position are the same row. -/
theorem rank_inj {d : Fin 2048 → Fin 4} {r s : Fin 2048} (h : d r = d s)
    (hr : rank d r = rank d s) : r = s := by
  rcases lt_trichotomy r s with hlt | he | hlt
  · exact absurd hr (Nat.ne_of_lt (rank_lt_rank h hlt))
  · exact he
  · exact absurd hr.symm (Nat.ne_of_lt (rank_lt_rank h.symm hlt))

/-- Every device is the destination of exactly 512 of the 2048 rows. -/
def Even (d : Fin 2048 → Fin 4) : Prop :=
  ∀ k, (univ.filter fun r : Fin 2048 => d r = k).card = 512

/-- All rows counted, the count of a destination is 512. -/
theorem before_end {d : Fin 2048 → Fin 4} (h : Even d) (k : Fin 4) : before d k 2048 = 512 := by
  rw [← h k]
  unfold before
  congr 1
  ext r
  simp [r.isLt]

/-- A position is below 512. -/
theorem rank_lt {d : Fin 2048 → Fin 4} (h : Even d) (r : Fin 2048) : rank d r < 512 := by
  have h1 : before d (d r) (r.val + 1) ≤ before d (d r) 2048 := before_mono d _ r.isLt
  rw [before_succ, if_pos rfl, before_end h] at h1
  unfold rank
  omega

/-- Every position below 512 is taken by a row of each destination. -/
theorem rank_surj {d : Fin 2048 → Fin 4} (h : Even d) (k : Fin 4) {i : ℕ} (hi : i < 512) :
    ∃ r, d r = k ∧ rank d r = i := by
  have himg : (univ.filter fun r : Fin 2048 => d r = k).image (rank d) = Finset.range 512 := by
    apply Finset.eq_of_subset_of_card_le
    · intro j hj
      obtain ⟨r, -, rfl⟩ := Finset.mem_image.mp hj
      exact Finset.mem_range.mpr (rank_lt h r)
    · rw [Finset.card_image_of_injOn, h k, Finset.card_range]
      intro r hr s hs hrs
      simp only [Finset.coe_filter, Finset.mem_univ, true_and, Set.mem_setOf_eq] at hr hs
      exact rank_inj (hr.trans hs.symm) hrs
  have : i ∈ (univ.filter fun r : Fin 2048 => d r = k).image (rank d) := by
    rw [himg]; exact Finset.mem_range.mpr hi
  obtain ⟨r, hr, he⟩ := Finset.mem_image.mp this
  exact ⟨r, (Finset.mem_filter.mp hr).2, he⟩

/-- The row that lands at position `i` of those going to device `k` (row 0 if there is none). -/
noncomputable def pick (d : Fin 2048 → Fin 4) (k : Fin 4) (i : ℕ) : Fin 2048 :=
  open Classical in if h : ∃ r, d r = k ∧ rank d r = i then h.choose else 0

/-- The row picked for a row's own destination and position is the row. -/
theorem pick_rank (d : Fin 2048 → Fin 4) (r : Fin 2048) : pick d (d r) (rank d r) = r := by
  have h : ∃ s, d s = d r ∧ rank d s = rank d r := ⟨r, rfl, rfl⟩
  unfold pick
  rw [dif_pos h]
  exact rank_inj h.choose_spec.1 h.choose_spec.2

/-- The row picked goes to the device it is picked for. -/
theorem pick_dest {d : Fin 2048 → Fin 4} (h : Even d) (k : Fin 4) {i : ℕ} (hi : i < 512) :
    d (pick d k i) = k ∧ rank d (pick d k i) = i := by
  have h' := rank_surj h k hi
  unfold pick
  rw [dif_pos h']
  exact h'.choose_spec

/-- The rows that do not stay on device `z` number 1536. -/
theorem card_away {d : Fin 2048 → Fin 4} (h : Even d) (z : Fin 4) :
    (univ.filter fun r : Fin 2048 => d r ≠ z).card = 1536 := by
  have h1 := Finset.card_filter_add_card_filter_not (s := (univ : Finset (Fin 2048))) (fun r => d r = z)
  rw [h z] at h1
  simp only [Finset.card_univ, Fintype.card_fin] at h1
  have : (univ.filter fun r : Fin 2048 => d r ≠ z).card
    = (univ.filter fun r : Fin 2048 => ¬ d r = z).card := rfl
  omega

/-! ## Where the rows land -/

/-- The row of the destination's result that row `r` of device `z` becomes: device `z`'s rows fill
    rows `512 z` to `512 z + 511`, in their own order. -/
def land (d : Fin 4 → Fin 2048 → Fin 4) (z : Fin 4) (r : Fin 2048) : ℕ := 512 * z.val + rank (d z) r

/-- A landing row is one of the 2048. -/
theorem land_lt {d : Fin 4 → Fin 2048 → Fin 4} (h : ∀ z, Even (d z)) (z : Fin 4) (r : Fin 2048) :
    land d z r < 2048 := by
  have := rank_lt (h z) r
  have := z.isLt
  unfold land
  omega

/-- The landing row as a row number. -/
def landF (d : Fin 4 → Fin 2048 → Fin 4) (z : Fin 4) (r : Fin 2048) : Fin 2048 :=
  ⟨land d z r % 2048, Nat.mod_lt _ (by decide)⟩

theorem landF_val {d : Fin 4 → Fin 2048 → Fin 4} (h : ∀ z, Even (d z)) (z : Fin 4) (r : Fin 2048) :
    (landF d z r).val = land d z r := Nat.mod_eq_of_lt (land_lt h z r)

/-- The device a row of the result comes from. -/
def fromDev (j : Fin 2048) : Fin 4 := ⟨j.val / 512, by have := j.isLt; omega⟩

theorem landF_fromDev {d : Fin 4 → Fin 2048 → Fin 4} (h : ∀ z, Even (d z)) (z : Fin 4)
    (r : Fin 2048) : fromDev (landF d z r) = z := by
  apply Fin.ext
  have := rank_lt (h z) r
  show (landF d z r).val / 512 = z.val
  rw [landF_val h]
  unfold land
  omega

theorem landF_mod {d : Fin 4 → Fin 2048 → Fin 4} (h : ∀ z, Even (d z)) (z : Fin 4)
    (r : Fin 2048) : (landF d z r).val % 512 = rank (d z) r := by
  have := rank_lt (h z) r
  rw [landF_val h]
  unfold land
  omega

/-- Two rows that go to one device from one device land apart. -/
theorem landF_inj {d : Fin 4 → Fin 2048 → Fin 4} (h : ∀ z, Even (d z)) {z : Fin 4}
    {r s : Fin 2048} (hd : d z r = d z s) (hl : landF d z r = landF d z s) : r = s := by
  have h1 := landF_mod h z r
  rw [hl, landF_mod h z s] at h1
  exact rank_inj hd h1.symm

/-- The row of the sending device that row `j` of device `k`'s result is. -/
noncomputable def rowAt (d : Fin 4 → Fin 2048 → Fin 4) (k : Fin 4) (j : Fin 2048) : Fin 2048 :=
  pick (d (fromDev j)) k (j.val % 512)

theorem rowAt_landF {d : Fin 4 → Fin 2048 → Fin 4} (h : ∀ z, Even (d z)) (z : Fin 4)
    (r : Fin 2048) : rowAt d (d z r) (landF d z r) = r := by
  unfold rowAt
  rw [landF_fromDev h, landF_mod h, pick_rank]

theorem rowAt_dest {d : Fin 4 → Fin 2048 → Fin 4} (h : ∀ z, Even (d z)) (k : Fin 4)
    (j : Fin 2048) : d (fromDev j) (rowAt d k j) = k :=
  (pick_dest (h _) k (Nat.mod_lt _ (by decide))).1

theorem landF_rowAt {d : Fin 4 → Fin 2048 → Fin 4} (h : ∀ z, Even (d z)) (k : Fin 4)
    (j : Fin 2048) : landF d (fromDev j) (rowAt d k j) = j := by
  apply Fin.ext
  rw [landF_val h]
  unfold land
  rw [show rank (d (fromDev j)) (rowAt d k j) = j.val % 512 from
    (pick_dest (h _) k (Nat.mod_lt _ (by decide))).2]
  show 512 * (j.val / 512) + j.val % 512 = j.val
  omega

/-! ## Words -/

/-- The destination a word names. -/
def toDev (w : BitVec 32) : Fin 4 := ⟨w.toNat % 4, Nat.mod_lt _ (by decide)⟩

/-- The index of entry `r` of a table of 2048 words. -/
def vecIx (r : Fin 2048) : S2048.Idx :=
  fun a => ⟨r.val, by have : a = 0 := Subsingleton.elim _ _; subst this; exact r.isLt⟩

/-- The destinations a table of words names. -/
def dests (w : S2048.Idx → BitVec 32) (r : Fin 2048) : Fin 4 := toDev (w (vecIx r))

/-- Every word names a device, and each device is named 512 times. -/
structure Good (w : S2048.Idx → BitVec 32) : Prop where
  lt : ∀ r, (w (vecIx r)).toNat < 4
  even : Even (dests w)

/-- A word that names a device is that device's number. -/
theorem toDev_val {w : BitVec 32} (h : w.toNat < 4) : (toDev w).val = w.toNat :=
  Nat.mod_eq_of_lt h

theorem toDev_word {w : BitVec 32} (h : w.toNat < 4) : BitVec.ofNat 32 (toDev w).val = w := by
  rw [toDev_val h]
  exact BitVec.eq_of_toNat_eq (by simp)

end Cert.KernelIdeal.Own
-- ==== Proof.Cells.lean ====
/-
  The protocol of the kernel's semaphores: who waits, who signals or copies onto each of them, how
  much, and what every signal and every landing hands over.

  barrier cell of p    signalled once by each peer q (1 unit), waited once for 3 units.  q hands over
                       the slot p of its gathered-counts buffer and the rows of its result that
                       p's rows will fill, both at whatever they hold.
  csend cell i of p    p's own copy of its counts to its i-th peer reads out; gives back one third of
                       the read share of p's own slot.
  crecv cell s of p    s's counts land in slot s of p's gathered counts.
  cloc cell of p       p's local copy of the gathered counts into scalar memory.
  ssem cell of p       every row of p that goes elsewhere reads out: the row comes back.
  rsem cell of p       every row that comes from elsewhere lands: p's result row, at its final
                       contents.
-/
module

public import proofs.«01_k».proof.Proof.Data
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Rounds
public import Idealize.ShloMosaic.Lib.Ring.Trips
public import Idealize.ShloMosaic.Lib.Pipeline.Kit
public import Idealize.ShloMosaic.Lib.Pipeline.RegionTalk

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Finset (univ filter)

variable {F : FTy → Type} [FloatOps F]

/-! ## The resource algebra -/

/-- A duty's name: the device it comes from and the row it is about (0 where there is no row). -/
abbrev Duty : Type := Dev nD × Fin 2048

/-- The ghost state: the launch library's rounds and the kernel's own. -/
abbrev UU : Type := UR sig nD τ × URounds (GSem nD τ sig) Duty

local notation "𝕄" => MT nD τ sig Unit (Elt F) ℕ UU ℕ

abbrev EP : Emb (UR sig nD τ) (MT nD τ sig Unit (Elt F) ℕ UU ℕ) := embL
abbrev ER : Emb (URounds (GSem nD τ sig) Duty) (MT nD τ sig Unit (Elt F) ℕ UU ℕ) := embR

/-! ## Cells -/

/-- The barrier. -/
abbrev barS : Sem sig := sig.barrier 0 rfl

/-- The kernel's own ten transfer semaphores, in order: three for the counts' read-outs, four for
    their landings, one for the local copy, one for the rows' read-outs, one for their landings. -/
abbrev osem (i : Fin 10) : SemLoc sig := .dma ⟨4 + i.val, by have := i.isLt; show 4 + i.val < 14; omega⟩

abbrev csendS (i : Fin 3) : SemLoc sig := osem ⟨i.val, by omega⟩
abbrev crecvS (s : Dev nD) : SemLoc sig := osem ⟨3 + s.val, by have : s.val < 4 := s.isLt; omega⟩
abbrev clocS : SemLoc sig := osem 7
abbrev ssemS : SemLoc sig := osem 8
abbrev rsemS : SemLoc sig := osem 9

abbrev barCell (c : Dev nD) : GSem nD τ sig := ((c : Thread nD τ), .reg barS)
abbrev oCell (c : Dev nD) (i : Fin 10) : GSem nD τ sig := ((c : Thread nD τ), osem i)
abbrev csendCell (c : Dev nD) (i : Fin 3) : GSem nD τ sig := ((c : Thread nD τ), csendS i)
abbrev crecvCell (c s : Dev nD) : GSem nD τ sig := ((c : Thread nD τ), crecvS s)
abbrev clocCell (c : Dev nD) : GSem nD τ sig := ((c : Thread nD τ), clocS)
abbrev ssemCell (c : Dev nD) : GSem nD τ sig := ((c : Thread nD τ), ssemS)
abbrev rsemCell (c : Dev nD) : GSem nD τ sig := ((c : Thread nD τ), rsemS)

/-! ## Buffers, sets and contents -/

/-- The elements of row `j`. -/
def rowSet (j : Fin 2048) : Finset S2048x1024.Idx := univ.filter fun i => (i 0).val = j.val

/-- The elements of slot `s` of the gathered counts. -/
def slotSet (s : Dev nD) : Finset S4x8x128.Idx := univ.filter fun i => (i 0).val = s.val

abbrev xLoc (c : Dev nD) : Loc nD τ sig := (c : Thread nD τ).loc cc0_stg0_0
abbrev outLoc (c : Dev nD) : Loc nD τ sig := (c : Thread nD τ).loc cc0_stg3_0
abbrev cgLoc (c : Dev nD) : Loc nD τ sig := (c : Thread nD τ).loc cc0_scratch0
abbrev destLoc (c : Dev nD) : Loc nD τ sig := (c : Thread nD τ).loc cc0_stg1_0
abbrev cntsLoc (c : Dev nD) : Loc nD τ sig := (c : Thread nD τ).loc cc0_stg2_0
abbrev csmLoc (c : Dev nD) : Loc nD τ sig := (c : Thread nD τ).loc cc0_scratch1
abbrev baseLoc (c : Dev nD) : Loc nD τ sig := (c : Thread nD τ).loc cc0_scratch2
abbrev cntLoc (c : Dev nD) : Loc nD τ sig := (c : Thread nD τ).loc cc0_scratch3

/-- The counts of a device, as it sends them: 512 in the first four entries of the first row. -/
def cvec : S8x128.Idx → BitVec 32 :=
  fun i => if (i 0).val = 0 ∧ (i 1).val < 4 then 512#32 else 0#32

/-- The gathered counts: in every slot the same. -/
def cgAll : S4x8x128.Idx → BitVec 32 :=
  fun i => if (i 1).val = 0 ∧ (i 2).val < 4 then 512#32 else 0#32

-- The blocks the devices hold.
variable (x : Dev nD → S2048x1024.Idx → Elt F .f32) (w : Dev nD → S2048.Idx → BitVec 32)

/-- The destinations of all rows of all devices. -/
abbrev dst (z : Dev nD) (r : Fin 2048) : Dev nD := dests (w z) r

/-- The index of column `b` of row `a`. -/
def rcIx (a : Fin 2048) (b : Fin 1024) : S2048x1024.Idx :=
  Fin.cons a (Fin.cons b finZeroElim)

/-- The final contents of device `c`'s result: row `j` is the row of the device it comes from that
    lands there. -/
def outF (c : Dev nD) : S2048x1024.Idx → Elt F .f32 :=
  fun i => x (fromDev (i 0)) (rcIx (rowAt (dst w) c (i 0)) (i 1))

/-- The rows of device `p` that go to device `q`. -/
def sendSet (p q : Dev nD) : Finset (Fin 2048) := univ.filter fun r => dst w p r = q

/-- The duties of the rows of `c` that go elsewhere, -/
def awayD (c : Dev nD) : Finset Duty := univ.filter fun e => e.1 = c ∧ dst w c e.2 ≠ c
/-- and of the rows that come to `c` from elsewhere. -/
def comeD (c : Dev nD) : Finset Duty := univ.filter fun e => e.1 ≠ c ∧ dst w e.1 e.2 = c

/-! ## Payloads -/

/-- Row `j` of device `c`'s result, at whatever it holds; -/
def outAny (c : Dev nD) (j : Fin 2048) : sProp 𝕄 :=
  iprop(∃ f : Buf (Elt F) (outLoc c), outLoc c ↦[rowSet j]{fullShare} f)

/-- Slot `s` of device `c`'s gathered counts, at whatever it holds. -/
def slotAny (c s : Dev nD) : sProp 𝕄 :=
  iprop(∃ f : Buf (Elt F) (cgLoc c), cgLoc c ↦[slotSet s]{fullShare} f)

/-- What `q`'s signal hands to `p`. -/
def barPay (p q : Dev nD) : sProp 𝕄 :=
  iprop(slotAny q p ∗ bigSep (sendSet w p q) (fun r => outAny q (landF (dst w) p r))
    ∗ reached ER (crecvCell q p) 0 ∗ reached ER (rsemCell q) 0)

/-- One third of the read share of `c`'s own counts. -/
def csendPay (c : Dev nD) (i : Fin 3) : sProp 𝕄 :=
  cgLoc c ↦[slotSet c]{Ring.shares3 fullShare i} (cgAll : Buf (Elt F) (cgLoc c))

/-- Slot `s` of `c`'s gathered counts, filled. -/
def crecvPay (c s : Dev nD) : sProp 𝕄 :=
  cgLoc c ↦[slotSet s]{fullShare} (cgAll : Buf (Elt F) (cgLoc c))

/-- The gathered counts in scalar memory, and those in vector memory back. -/
def clocPay (c : Dev nD) : sProp 𝕄 :=
  iprop((csmLoc c ↦[univ]{fullShare} (cgAll : Buf (Elt F) (csmLoc c)))
    ∗ cgLoc c ↦[univ]{fullShare} (cgAll : Buf (Elt F) (cgLoc c)))

/-- A row of `c`'s block back. -/
def ssemPay (c : Dev nD) (r : Fin 2048) : sProp 𝕄 :=
  xLoc c ↦[rowSet r]{fullShare} (x c : Buf (Elt F) (xLoc c))

/-- A row of `c`'s result, at its final contents. -/
def rsemPay (c : Dev nD) (e : Duty) : sProp 𝕄 :=
  outLoc c ↦[rowSet (landF (dst w) e.1 e.2)]{fullShare} (outF x w c : Buf (Elt F) (outLoc c))

/-- The duties of a semaphore of device `c`. -/
def dutOf (c : Dev nD) : SemLoc sig → Finset Duty
  | .reg _ => {(c + 1, 0), (c + 2, 0), (c + 3, 0)}
  | .dma n =>
    if n.val < 4 then ∅ else if n.val < 7 then {(c, 0)}
    else if n.val < 11 then (if n.val = 7 + c.val then ∅ else {(Fin.ofNat 4 (n.val - 7), 0)})
    else if n.val = 11 then {(c, 0)} else if n.val = 12 then awayD w c else comeD w c

/-- What the duty hands over. -/
def payOf (c : Dev nD) (s : SemLoc sig) (e : Duty) : sProp 𝕄 :=
  match s with
  | .reg _ => barPay w c e.1
  | .dma n =>
    if n.val < 4 then iprop(emp) else if n.val < 7 then csendPay c (Fin.ofNat 3 (n.val - 4))
    else if n.val < 11 then crecvPay c (Fin.ofNat 4 (n.val - 7))
    else if n.val = 11 then clocPay c else if n.val = 12 then ssemPay x c e.2 else rsemPay x w c e

/-- A view's counts slot, for the units its transfer credits. -/
abbrev cgM : Memref sig .tc .vmem S4x8x128 .i32 := Memref.whole cc0_scratch0
abbrev csmM : Memref sig .tc .smem S4x8x128 .i32 := Memref.whole cc0_scratch1
abbrev xM : Memref sig .tc .vmem S2048x1024 .f32 := Memref.whole cc0_stg0_0
abbrev outM : Memref sig .tc .vmem S2048x1024 .f32 := Memref.whole cc0_stg3_0

/-- The units a transfer of one counts slot credits, -/
def Ncg : ℕ := sig.dmaCredit .tc (Kind.table .tc .vmem) cc0_scratch0.idx S8x128 .i32
/-- those of the local copy, -/
def Nloc : ℕ := (csmM).view.dmaCredit
/-- and those of one row. -/
def Nrow : ℕ := sig.dmaCredit .tc (Kind.table .tc .vmem) cc0_stg3_0.idx S1x1024 .f32

theorem Ncg_pos : 0 < Ncg := sig.dmaCredit_pos _ _ _ _ _ (by decide)
theorem Nloc_pos : 0 < Nloc := View.dmaCredit_pos _ (by decide)
theorem Nrow_pos : 0 < Nrow := sig.dmaCredit_pos _ _ _ _ _ (by decide)

/-- The units a duty of the semaphore contributes. -/
def amtOf : SemLoc sig → ℕ
  | .reg _ => 1
  | .dma n => if n.val < 11 then Ncg else if n.val = 11 then Nloc else Nrow

theorem amtOf_pos (s : SemLoc sig) : 0 < amtOf s := by
  have := Ncg_pos; have := Nloc_pos; have := Nrow_pos
  cases s with
  | reg _ => exact Nat.one_pos
  | dma n => unfold amtOf; dsimp only; split_ifs <;> assumption

/-- The schedule: one round on every cell. -/
def Rd : Rounds.Schedule (GSem nD τ sig) Duty 𝕄 where
  duties g r := if r = 0 ∧ g.1.2 = .tc then dutOf w g.1.1 g.2 else ∅
  unitless _ := False
  amount g _ _ := amtOf g.2
  payload g _ e := payOf x w g.1.1 g.2 e
  amount_pos g _ _ _ := amtOf_pos g.2

instance outAny_storable (c : Dev nD) (j : Fin 2048) :
    BI.Storable (upEmb : UEmb _ 𝕄) (outAny (F := F) c j) := by unfold outAny; infer_instance
instance slotAny_storable (c s : Dev nD) :
    BI.Storable (upEmb : UEmb _ 𝕄) (slotAny (F := F) c s) := by unfold slotAny; infer_instance

instance Rd_storable (g : GSem nD τ sig) (r : ℕ) (e : Duty) :
    BI.Storable (upEmb : UEmb _ 𝕄) ((Rd (F := F) x w).payload g r e) := by
  show BI.Storable upEmb (payOf x w g.1.1 g.2 e)
  unfold payOf barPay csendPay crecvPay clocPay ssemPay rsemPay
  (repeat' split) <;> infer_instance

/-! ## The schedule, computed -/

section Tables
variable (c : Dev nD)

/-- A cell's duties of round 0. -/
theorem dut_zero (s : SemLoc sig) : (Rd x w).duties ((c : Thread nD τ), s) 0 = dutOf w c s := by
  unfold Rd; dsimp only; exact if_pos ⟨rfl, rfl⟩

theorem dut_bar : (Rd x w).duties (barCell c) 0 = {(c + 1, 0), (c + 2, 0), (c + 3, 0)} := by
  rw [dut_zero]; rfl
theorem dut_csend (i : Fin 3) : (Rd x w).duties (csendCell c i) 0 = {(c, 0)} := by
  rw [dut_zero]
  unfold dutOf
  dsimp only
  rw [if_neg (by omega), if_pos (by omega)]
theorem dut_crecv (s : Dev nD) (h : s ≠ c) : (Rd x w).duties (crecvCell c s) 0 = {(s, 0)} := by
  rw [dut_zero]
  have hs : s.val < 4 := s.isLt
  unfold dutOf
  dsimp only
  rw [if_neg (by omega), if_neg (by omega), if_pos (by omega), if_neg (fun h' => h (Fin.ext (by omega)))]
  congr 2
  apply Fin.ext
  show (4 + (3 + s.val) - 7) % 4 = s.val
  omega
theorem dut_crecv_self : (Rd x w).duties (crecvCell c c) 0 = ∅ := by
  rw [dut_zero]
  have hs : c.val < 4 := c.isLt
  unfold dutOf
  dsimp only
  rw [if_neg (by omega), if_neg (by omega), if_pos (by omega), if_pos (by omega)]
theorem dut_cloc : (Rd x w).duties (clocCell c) 0 = {(c, 0)} := by
  rw [dut_zero]; rfl
theorem dut_ssem : (Rd x w).duties (ssemCell c) 0 = awayD w c := by
  rw [dut_zero]; rfl
theorem dut_rsem : (Rd x w).duties (rsemCell c) 0 = comeD w c := by
  rw [dut_zero]; rfl
/-- After round 0 no cell has a duty. -/
theorem dut_later (g : GSem nD τ sig) : ∀ r, 1 ≤ r → (Rd x w).duties g r = ∅ :=
  fun r hr => if_neg (fun h => by omega)

theorem amt_bar (e : Duty) : (Rd x w).amount (barCell c) 0 e = 1 := rfl
theorem amt_csend (i : Fin 3) (e : Duty) : (Rd x w).amount (csendCell c i) 0 e = Ncg := by
  show amtOf (csendS i) = _
  unfold amtOf; dsimp only; rw [if_pos (by omega)]
theorem amt_crecv (s : Dev nD) (e : Duty) : (Rd x w).amount (crecvCell c s) 0 e = Ncg := by
  show amtOf (crecvS s) = _
  have hs : s.val < 4 := s.isLt
  unfold amtOf; dsimp only; rw [if_pos (by omega)]
theorem amt_cloc (e : Duty) : (Rd x w).amount (clocCell c) 0 e = Nloc := rfl
theorem amt_ssem (e : Duty) : (Rd x w).amount (ssemCell c) 0 e = Nrow := rfl
theorem amt_rsem (e : Duty) : (Rd x w).amount (rsemCell c) 0 e = Nrow := rfl

theorem pay_bar (q : Dev nD) (r : Fin 2048) :
    (Rd x w).payload (barCell c) 0 (q, r) = barPay w c q := rfl
theorem pay_csend (i : Fin 3) (e : Duty) :
    (Rd x w).payload (csendCell c i) 0 e = csendPay (F := F) c i := by
  show payOf x w c (csendS i) e = _
  unfold payOf; dsimp only
  rw [if_neg (by omega), if_pos (by omega)]
  congr 1
  apply Fin.ext
  show (4 + i.val - 4) % 3 = i.val
  omega
theorem pay_crecv (s : Dev nD) (e : Duty) :
    (Rd x w).payload (crecvCell c s) 0 e = crecvPay (F := F) c s := by
  have hs : s.val < 4 := s.isLt
  show payOf x w c (crecvS s) e = _
  unfold payOf; dsimp only
  rw [if_neg (by omega), if_neg (by omega), if_pos (by omega)]
  congr 1
  apply Fin.ext
  show (4 + (3 + s.val) - 7) % 4 = s.val
  omega
theorem pay_cloc (e : Duty) : (Rd x w).payload (clocCell c) 0 e = clocPay (F := F) c := rfl
theorem pay_ssem (e : Duty) : (Rd x w).payload (ssemCell c) 0 e = ssemPay x c e.2 := rfl
theorem pay_rsem (e : Duty) : (Rd x w).payload (rsemCell c) 0 e = rsemPay x w c e := rfl

/-- A device's three peers are not itself, and differ. -/
theorem add1_ne : c + 1 ≠ c := by revert c; decide
theorem add2_ne : c + 2 ≠ c := by revert c; decide
theorem add3_ne : c + 3 ≠ c := by revert c; decide
theorem add12 : c + 1 ≠ c + 2 := by revert c; decide
theorem add13 : c + 1 ≠ c + 3 := by revert c; decide
theorem add23 : c + 2 ≠ c + 3 := by revert c; decide

theorem exp_bar : (Rd x w).expect (barCell c) 0 = 3 := by
  unfold Schedule.expect Schedule.amountOf
  rw [dut_bar, Finset.sum_congr rfl (fun e _ => amt_bar x w c e)]
  revert c; decide
theorem exp_csend (i : Fin 3) : (Rd x w).expect (csendCell c i) 0 = Ncg := by
  unfold Schedule.expect Schedule.amountOf
  rw [dut_csend, Finset.sum_singleton, amt_csend]
theorem exp_crecv (s : Dev nD) (h : s ≠ c) : (Rd x w).expect (crecvCell c s) 0 = Ncg := by
  unfold Schedule.expect Schedule.amountOf
  rw [dut_crecv x w c s h, Finset.sum_singleton, amt_crecv]
theorem exp_cloc : (Rd x w).expect (clocCell c) 0 = Nloc := by
  unfold Schedule.expect Schedule.amountOf
  rw [dut_cloc, Finset.sum_singleton, amt_cloc]

end Tables

/-! ## How many rows leave and arrive -/

variable {w} in
/-- As many duties on a device's read-out cell as rows leaving it. -/
theorem card_awayD (hw : ∀ z, Good (w z)) (c : Dev nD) : (awayD w c).card = 1536 := by
  rw [← card_away (hw c).even c]
  symm
  apply Finset.card_bij (fun r _ => ((c, r) : Duty))
  · intro r hr
    simp only [Finset.mem_filter, Finset.mem_univ, true_and] at hr
    simp only [awayD, Finset.mem_filter, Finset.mem_univ, true_and]
    exact hr
  · intro r _ s _ h
    exact (Prod.mk.inj h).2
  · rintro ⟨z, r⟩ he
    simp only [awayD, Finset.mem_filter, Finset.mem_univ, true_and] at he
    obtain ⟨rfl, he⟩ := he
    exact ⟨r, by simp only [Finset.mem_filter, Finset.mem_univ, true_and]; exact he, rfl⟩

variable {w} in
/-- As many rows arrive as leave. -/
theorem card_comeD (hw : ∀ z, Good (w z)) (c : Dev nD) : (comeD w c).card = 1536 := by
  have h : comeD w c = (univ.erase c).biUnion fun z =>
      (univ.filter fun r : Fin 2048 => dst w z r = c).map ⟨fun r => ((z, r) : Duty), fun _ _ h => (Prod.mk.inj h).2⟩ := by
    ext ⟨z, r⟩
    simp only [comeD, Finset.mem_filter, Finset.mem_univ, true_and, Finset.mem_biUnion,
      Finset.mem_erase, and_true, Finset.mem_map, Function.Embedding.coeFn_mk]
    constructor
    · rintro ⟨h1, h2⟩
      exact ⟨z, h1, r, h2, rfl⟩
    · rintro ⟨z', h1, r', h2, h3⟩
      obtain ⟨rfl, rfl⟩ := Prod.mk.inj h3
      exact ⟨h1, h2⟩
  rw [h, Finset.card_biUnion]
  · rw [Finset.sum_congr rfl (fun z _ => (Finset.card_map _).trans ((hw z).even c)), Finset.sum_const,
      Finset.card_erase_of_mem (Finset.mem_univ c)]
    rfl
  · intro z _ z' _ hne
    rw [Function.onFun, Finset.disjoint_left]
    rintro ⟨a, b⟩ h1 h2
    simp only [Finset.mem_map, Function.Embedding.coeFn_mk] at h1 h2
    obtain ⟨r1, -, e1⟩ := h1
    obtain ⟨r2, -, e2⟩ := h2
    exact hne ((Prod.mk.inj e1).1.trans (Prod.mk.inj e2).1.symm)

variable {w} in
theorem exp_ssem (hw : ∀ z, Good (w z)) (c : Dev nD) :
    (Rd x w).expect (ssemCell c) 0 = 1536 * Nrow := by
  unfold Schedule.expect Schedule.amountOf
  rw [dut_ssem, Finset.sum_congr rfl (fun e _ => amt_ssem x w c e), Finset.sum_const, card_awayD hw,
    smul_eq_mul]
variable {w} in
theorem exp_rsem (hw : ∀ z, Good (w z)) (c : Dev nD) :
    (Rd x w).expect (rsemCell c) 0 = 1536 * Nrow := by
  unfold Schedule.expect Schedule.amountOf
  rw [dut_rsem, Finset.sum_congr rfl (fun e _ => amt_rsem x w c e), Finset.sum_const, card_comeD hw,
    smul_eq_mul]

/-! ## What a device owes, and the levels -/

/-- The units of the rows from `t` on that leave device `c`. -/
def Orow (c : Dev nD) (t : ℕ) : CellTallies nD τ sig Unit :=
  ∑ r ∈ univ.filter (fun r : Fin 2048 => t ≤ r.val ∧ dst w c r ≠ c), tallyAt (rsemCell (dst w c r)) () Nrow

/-- The units of the counts a device sends, -/
def Ocg3 (c : Dev nD) : CellTallies nD τ sig Unit := Orow w c 0 + tallyAt (crecvCell (c + 3) c) () Ncg
def Ocg2 (c : Dev nD) : CellTallies nD τ sig Unit := Ocg3 w c + tallyAt (crecvCell (c + 2) c) () Ncg
def Ocg1 (c : Dev nD) : CellTallies nD τ sig Unit := Ocg2 w c + tallyAt (crecvCell (c + 1) c) () Ncg
/-- and of its barrier signals. -/
def Obar3 (c : Dev nD) : CellTallies nD τ sig Unit := Ocg1 w c + tallyAt (barCell (c + 3)) () 1
def Obar2 (c : Dev nD) : CellTallies nD τ sig Unit := Obar3 w c + tallyAt (barCell (c + 2)) () 1
def Obar1 (c : Dev nD) : CellTallies nD τ sig Unit := Obar2 w c + tallyAt (barCell (c + 1)) () 1

/-- The cells carry levels on the tensor cores alone. -/
def L (g : GSem nD τ sig) : Finset Unit := if g.1.2 = .tc then {()} else ∅

/-- Barrier cells at level 1, the counts' landings at 2, the rows' landings at 3, the rest at 0. -/
def lv (g : GSem nD τ sig) (_ : Unit) : ℕ :=
  match g.2 with
  | .reg _ => 1
  | .dma n => if 7 ≤ n.val ∧ n.val < 11 then 2 else if n.val = 13 then 3 else 0

theorem L_of_ne (g : GSem nD τ sig) (h : g.1.2 ≠ .tc) : L g = ∅ := if_neg h
theorem L_tc (c : Dev nD) (s : SemLoc sig) : L ((c : Thread nD τ), s) = {()} := if_pos rfl

theorem lv_bar (c : Dev nD) : lv (barCell c) () = 1 := rfl
theorem lv_crecv (c s : Dev nD) : lv (crecvCell c s) () = 2 := by
  have hs : s.val < 4 := s.isLt
  unfold lv; dsimp only; rw [if_pos (by omega)]
theorem lv_rsem (c : Dev nD) : lv (rsemCell c) () = 3 := rfl
theorem lv_csend (c : Dev nD) (i : Fin 3) : lv (csendCell c i) () = 0 := by
  unfold lv; dsimp only; rw [if_neg (by omega), if_neg (by omega)]
theorem lv_cloc (c : Dev nD) : lv (clocCell c) () = 0 := rfl
theorem lv_ssem (c : Dev nD) : lv (ssemCell c) () = 0 := rfl

/-- A tally charges only cells above level `n` of the tensor cores. -/
def Above (n : ℕ) (O : CellTallies nD τ sig Unit) : Prop :=
  ∀ g u, 0 < O g u → u ∈ L g ∧ n < lv g u

theorem above_tally {n : ℕ} (c : Dev nD) (s : SemLoc sig) (k : ℕ) (h : n < lv ((c : Thread nD τ), s) ()) :
    Above n (tallyAt ((c : Thread nD τ), s) () k) := by
  intro g u hg
  rw [tallyAt_apply] at hg
  by_cases he : g = ((c : Thread nD τ), s) ∧ u = ()
  · rw [he.1, L_tc]; exact ⟨Finset.mem_singleton_self _, h⟩
  · rw [if_neg he] at hg; exact absurd hg (Nat.lt_irrefl 0)

theorem above_add {n : ℕ} {O O' : CellTallies nD τ sig Unit} (h : Above n O) (h' : Above n O') :
    Above n (O + O') := by
  intro g u hg
  have hg : 0 < O g u + O' g u := hg
  rcases Nat.eq_zero_or_pos (O g u) with h0 | h0
  · exact h' g u (by omega)
  · exact h g u h0

theorem above_mono {n k : ℕ} {O : CellTallies nD τ sig Unit} (h : Above n O) (hk : k ≤ n) : Above k O :=
  fun g u hg => ⟨(h g u hg).1, by have := (h g u hg).2; omega⟩

theorem above_zero (n : ℕ) : Above n 0 := fun g u hg => absurd hg (Nat.lt_irrefl 0)

theorem above_sum {α : Type} [DecidableEq α] {n : ℕ} (S : Finset α) (f : α → CellTallies nD τ sig Unit) (h : ∀ a ∈ S, Above n (f a)) :
    Above n (∑ a ∈ S, f a) := by
  induction S using Finset.induction_on with
  | empty => rw [Finset.sum_empty]; exact above_zero n
  | insert a S ha ih =>
    rw [Finset.sum_insert ha]
    exact above_add (h a (Finset.mem_insert_self _ _)) (ih fun b hb => h b (Finset.mem_insert_of_mem hb))

theorem above_Orow (c : Dev nD) (t : ℕ) : Above 2 (Orow w c t) :=
  above_sum _ _ fun r _ => above_tally _ _ _ (by rw [lv_rsem]; decide)
theorem above_Ocg1 (c : Dev nD) : Above 1 (Ocg1 w c) :=
  above_add (above_add (above_add (above_mono (above_Orow w c 0) (by decide))
    (above_tally _ _ _ (by rw [lv_crecv]; decide))) (above_tally _ _ _ (by rw [lv_crecv]; decide)))
    (above_tally _ _ _ (by rw [lv_crecv]; decide))
theorem above_Obar1 (c : Dev nD) : Above 0 (Obar1 w c) :=
  above_add (above_add (above_add (above_mono (above_Ocg1 w c) (by decide))
    (above_tally _ _ _ (by rw [lv_bar]; decide))) (above_tally _ _ _ (by rw [lv_bar]; decide)))
    (above_tally _ _ _ (by rw [lv_bar]; decide))

/-- A core may wait on a cell at or below level `n` while it owes only cells above. -/
theorem mayWait_of_above (c : Dev nD) (s : SemLoc sig) {n : ℕ} {O : CellTallies nD τ sig Unit}
    (hs : lv ((c : Thread nD τ), s) () ≤ n) (h : Above n O) :
    (levAts L lv : sProp 𝕄) ⊢ MayWait (c : Thread nD τ) s () O :=
  MayOwe.of_cut (L := L) (lev := lv) n
    (fun p hp => by rw [Finset.mem_singleton.mp hp, L_tc]; exact Finset.mem_singleton_self _)
    (fun g u hg => (h g u hg).1)
    (fun p hp => by rw [Finset.mem_singleton.mp hp]; exact hs)
    (fun g u hg => (h g u hg).2)

end Cert.KernelIdeal.Own
-- ==== Proof.Views.lean ====
/-
  The pieces of the buffers that the kernel's transfers, loads and stores touch: which elements, what
  a landing leaves there, and how many units it counts.
-/
module

public import proofs.«01_k».proof.Proof.Cells

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Finset (univ filter)

variable {F : FTy → Type} [FloatOps F]

local notation "𝕄" => MT nD τ sig Unit (Elt F) ℕ UU ℕ

/-! ## Rows -/

/-- Row `j` as a rectangle of the block. -/
theorem set_rowRect {off : Fin 2 → ℕ} {j : Fin 2048} (h : off = ![j.val, 0]) (inb) :
    (Rect.unit (s := S2048x1024) off S1x1024.size inb).set = rowSet j := by
  subst h
  ext i
  rw [Rect.mem_set_unit]
  simp only [rowSet, Finset.mem_filter, Finset.mem_univ, true_and]
  constructor
  · intro h
    have := h 0
    have h1 : j.val ≤ (i 0).val := this.1
    have h2 : (i 0).val < j.val + 1 := this.2
    omega
  · intro h a
    fin_cases a
    · exact ⟨le_of_eq h.symm, by show (i 0).val < j.val + 1; omega⟩
    · exact ⟨Nat.zero_le _, by show (i 1).val < 0 + 1024; have : (i 1).val < 1024 := (i 1).isLt; omega⟩

/-- The element of row `j` at column `x 1`. -/
theorem emb_rowRect {off : Fin 2 → ℕ} {j : Fin 2048} (h : off = ![j.val, 0]) (inb)
    (x : (Rect.unit (s := S2048x1024) off S1x1024.size inb).shape.Idx) :
    (Rect.unit (s := S2048x1024) off S1x1024.size inb).emb x = rcIx j (x 1) := by
  subst h
  funext a
  apply Fin.ext
  fin_cases a
  · show j.val + 1 * (x 0).val = j.val
    have : (x 0).val < 1 := (x 0).isLt
    omega
  · show 0 + 1 * (x 1).val = (x 1).val
    omega

/-- A row of the block as the kernel's transfers take it, -/
abbrev xRow (off : Fin 2 → ℕ) (inb : ∀ a, off a + S1x1024.size a ≤ S2048x1024.size a) : Memref sig .tc .vmem S1x1024 .f32 :=
  xM.slice (Rect.unit (s := S2048x1024) off S1x1024.size inb) (fun _ => rfl)
/-- and a row of the result. -/
abbrev outRow (off : Fin 2 → ℕ) (inb : ∀ a, off a + S1x1024.size a ≤ S2048x1024.size a) : Memref sig .tc .vmem S1x1024 .f32 :=
  outM.slice (Rect.unit (s := S2048x1024) off S1x1024.size inb) (fun _ => rfl)

theorem set_xRow {off : Fin 2 → ℕ} {j : Fin 2048} (h : off = ![j.val, 0]) (inb) :
    (xRow off inb).view.set = rowSet j := by
  rw [← set_rowRect h inb]
  exact View.set_slice_whole cc0_stg0_0 _

theorem set_outRow {off : Fin 2 → ℕ} {j : Fin 2048} (h : off = ![j.val, 0]) (inb) :
    (outRow off inb).view.set = rowSet j := by
  rw [← set_rowRect h inb]
  exact View.set_slice_whole cc0_stg3_0 _

/-- What row `k` of a block leaves in row `j` of the result. -/
theorem write_outRow {off off' : Fin 2 → ℕ} {j k : Fin 2048} (h : off = ![j.val, 0]) (h' : off' = ![k.val, 0]) (inb inb')
    (fd : S2048x1024.Idx → Elt F .f32) (fs : S2048x1024.Idx → Elt F .f32) :
    ∀ i ∈ rowSet j, (outRow off inb).view.write (Elt F) fd ((xRow off' inb').view.read (Elt F) fs) univ i = fs (rcIx k (i 1)) := by
  intro i hi
  rw [← set_outRow h inb] at hi
  obtain ⟨y, -, rfl⟩ := Finset.mem_map.mp hi
  rw [View.write_emb_of_mem _ _ (Finset.mem_univ _), View.read_apply]
  have e1 : (outRow off inb).view.emb y = rcIx j (y 1) := emb_rowRect h inb y
  have e2 : (xRow off' inb').view.emb y = rcIx k (y 1) := emb_rowRect h' inb' y
  rw [e1, e2]
  rfl

/-- A row credits `Nrow`. -/
theorem amount_outRow (off inb) (s : DmaSem sig) : (outRow off inb).view.amount (.dma s) = Nrow := rfl
theorem amount_xRow (off inb) (s : DmaSem sig) : (xRow off inb).view.amount (.dma s) = Nrow := rfl

/-! ## Slots of the gathered counts -/

/-- Slot `s` as a rectangle. -/
theorem set_slotRect {off : Fin 3 → ℕ} {s : Dev nD} (h : off = ![s.val, 0, 0]) (inb) :
    (Rect.unit (s := S4x8x128) off S1x8x128.size inb).set = slotSet s := by
  subst h
  ext i
  rw [Rect.mem_set_unit]
  simp only [slotSet, Finset.mem_filter, Finset.mem_univ, true_and]
  constructor
  · intro h
    have := h 0
    have h1 : s.val ≤ (i 0).val := this.1
    have h2 : (i 0).val < s.val + 1 := this.2
    omega
  · intro h a
    fin_cases a
    · exact ⟨le_of_eq h.symm, by show (i 0).val < s.val + 1; omega⟩
    · exact ⟨Nat.zero_le _, by show (i 1).val < 0 + 8; have : (i 1).val < 8 := (i 1).isLt; omega⟩
    · exact ⟨Nat.zero_le _, by show (i 2).val < 0 + 128; have : (i 2).val < 128 := (i 2).isLt; omega⟩

/-- The slot as the kernel's transfers take it. -/
abbrev cgSlot (off : Fin 3 → ℕ) (inb : ∀ a, off a + S1x8x128.size a ≤ S4x8x128.size a) : Memref sig .tc .vmem S8x128 .i32 :=
  (cgM.slice (Rect.unit (s := S4x8x128) off S1x8x128.size inb) (fun _ => rfl)).squeeze S8x128 squeezes_S1x8x128_S8x128

theorem set_cgSlot {off : Fin 3 → ℕ} {s : Dev nD} (h : off = ![s.val, 0, 0]) (inb) :
    (cgSlot off inb).view.set = slotSet s := by
  rw [← set_slotRect h inb]
  refine (View.set_reshape _ _).trans ?_
  exact View.set_slice_whole cc0_scratch0 _

/-- The gathered counts read through a slot and landed in the same slot elsewhere are the gathered counts there. -/
theorem write_cgSlot {off : Fin 3 → ℕ} {s : Dev nD} (h : off = ![s.val, 0, 0]) (inb)
    (fd : S4x8x128.Idx → BitVec 32) :
    ∀ i ∈ slotSet s, (cgSlot off inb).view.write (Elt F) fd ((cgSlot off inb).view.read (Elt F) cgAll) univ i = cgAll i := by
  intro i hi
  rw [← set_cgSlot h inb] at hi
  obtain ⟨y, -, rfl⟩ := Finset.mem_map.mp hi
  rw [View.write_emb_of_mem _ _ (Finset.mem_univ _), View.read_apply]
  rfl

theorem amount_cgSlot (off inb) (s : DmaSem sig) : (cgSlot off inb).view.amount (.dma s) = Ncg := rfl

end Cert.KernelIdeal.Own
-- ==== Proof.Splits.lean ====
/-
  Buffers cut into the rows and slots that travel, and put together again.
-/
module

public import proofs.«01_k».proof.Proof.Views

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Finset (univ filter)

variable {F : FTy → Type} [FloatOps F]

local notation "𝕄" => MT nD τ sig Unit (Elt F) ℕ UU ℕ

/-- Resources over disjoint sets, and over their union. -/
theorem bigSep_disjUnion {α β : Type} [DecidableEq α] [DecidableEq β] (S : Finset α) (K : α → Finset β) (Φ : β → sProp 𝕄)
    (hd : ∀ a ∈ S, ∀ b ∈ S, a ≠ b → Disjoint (K a) (K b)) :
    bigSep (S.biUnion K) Φ = bigSep S fun a => bigSep (K a) Φ := by
  induction S using Finset.induction_on with
  | empty => rw [Finset.biUnion_empty, bigSep_empty, bigSep_empty]
  | insert a S ha ih =>
    rw [Finset.biUnion_insert, bigSep_insert ha, bigSep_union, ih fun b hb b' hb' =>
      hd b (Finset.mem_insert_of_mem hb) b' (Finset.mem_insert_of_mem hb')]
    rw [Finset.disjoint_biUnion_right]
    exact fun b hb => hd a (Finset.mem_insert_self _ _) b (Finset.mem_insert_of_mem hb) fun h => ha (h ▸ hb)

/-! ## Sets of peers -/

/-- The devices other than `c`. -/
theorem erase_eq (c : Dev nD) : (univ : Finset (Dev nD)).erase c = {c + 1, c + 2, c + 3} := by
  revert c; decide

/-- A resource for every peer, spelled. -/
theorem bigSep_peers (c : Dev nD) (Φ : Dev nD → sProp 𝕄) :
    bigSep ((univ : Finset (Dev nD)).erase c) Φ = iprop(Φ (c + 1) ∗ Φ (c + 2) ∗ Φ (c + 3)) := by
  rw [erase_eq, bigSep_insert (by revert c; decide), bigSep_insert (by revert c; decide), bigSep_singleton]
  rfl

theorem rowSet_disjoint {i j : Fin 2048} (h : i ≠ j) : Disjoint (rowSet i) (rowSet j) := by
  rw [Finset.disjoint_left]
  intro a h1 h2
  simp only [rowSet, Finset.mem_filter, Finset.mem_univ, _root_.true_and] at h1 h2
  exact h (Fin.ext (h1.symm.trans h2))

theorem slotSet_disjoint {i j : Dev nD} (h : i ≠ j) : Disjoint (slotSet i) (slotSet j) := by
  rw [Finset.disjoint_left]
  intro a h1 h2
  simp only [slotSet, Finset.mem_filter, Finset.mem_univ, _root_.true_and] at h1 h2
  exact h (Fin.ext (h1.symm.trans h2))

theorem rows_univ : (univ : Finset (Fin 2048)).biUnion rowSet = univ := by
  ext i
  simp only [Finset.mem_biUnion, Finset.mem_univ, _root_.true_and, rowSet, Finset.mem_filter, iff_true]
  exact ⟨i 0, rfl⟩

theorem slots_univ : (univ : Finset (Dev nD)).biUnion slotSet = univ := by
  ext i
  simp only [Finset.mem_biUnion, Finset.mem_univ, _root_.true_and, slotSet, Finset.mem_filter, iff_true]
  exact ⟨i 0, rfl⟩

/-- The gathered counts by slots. -/
theorem cg_slots (c : Dev nD) (q : PosShare TreeShare) (f : Buf (Elt F) (cgLoc c)) :
    (cgLoc c ↦[univ]{q} f : sProp 𝕄) = bigSep univ fun s => cgLoc c ↦[slotSet s]{q} f := by
  rw [← pointsTo_biUnion (ℓ := cgLoc c) univ slotSet (fun s _ s' _ h => slotSet_disjoint h)]
  exact congrArg (fun S => (cgLoc c ↦[S]{q} f : sProp 𝕄)) slots_univ.symm

/-- A block by rows. -/
theorem x_rows (c : Dev nD) (f : Buf (Elt F) (xLoc c)) :
    (xLoc c ↦[univ]{fullShare} f : sProp 𝕄) = bigSep univ fun r => xLoc c ↦[rowSet r]{fullShare} f := by
  rw [← pointsTo_biUnion (ℓ := xLoc c) univ rowSet (fun s _ s' _ h => rowSet_disjoint h)]
  exact congrArg (fun S => (xLoc c ↦[S]{fullShare} f : sProp 𝕄)) rows_univ.symm

variable (x : Dev nD → S2048x1024.Idx → Elt F .f32) (w : Dev nD → S2048.Idx → BitVec 32)

variable {w} in
/-- Two rows that go to the same device land in different rows. -/
theorem land_ne (hw : ∀ z, Good (w z)) {c z z' : Dev nD} {r r' : Fin 2048} (h : dst w z r = c) (h' : dst w z' r' = c)
    (hne : z ≠ z' ∨ r ≠ r') : landF (dst w) z r ≠ landF (dst w) z' r' := by
  intro heq
  have hE : ∀ z, Even (dst w z) := fun z => (hw z).even
  have hz : z = z' := by rw [← landF_fromDev hE z r, ← landF_fromDev hE z' r', heq]
  subst hz
  have hr : r = r' := landF_inj hE (h.trans h'.symm) heq
  rcases hne with h1 | h1
  · exact h1 rfl
  · exact h1 hr

variable {w} in
/-- Every row of a result is landed on. -/
theorem land_cover (hw : ∀ z, Good (w z)) (c : Dev nD) (j : Fin 2048) :
    dst w (fromDev j) (rowAt (dst w) c j) = c ∧ landF (dst w) (fromDev j) (rowAt (dst w) c j) = j :=
  have hE : ∀ z, Even (dst w z) := fun z => (hw z).even
  ⟨rowAt_dest hE c j, landF_rowAt hE c j⟩

variable {w} in
/-- A result by the rows that land there. -/
theorem out_rows (hw : ∀ z, Good (w z)) (c : Dev nD) (f : Buf (Elt F) (outLoc c)) :
    (outLoc c ↦[univ]{fullShare} f : sProp 𝕄)
      = bigSep univ fun z => bigSep (sendSet w z c) fun r => outLoc c ↦[rowSet (landF (dst w) z r)]{fullShare} f := by
  have h1 : (univ : Finset (Dev nD)).biUnion (fun z => (sendSet w z c).biUnion fun r => rowSet (landF (dst w) z r)) = univ := by
    ext i
    simp only [Finset.mem_biUnion, Finset.mem_univ, _root_.true_and, sendSet, Finset.mem_filter, iff_true]
    refine ⟨fromDev (i 0), rowAt (dst w) c (i 0), (land_cover hw c (i 0)).1, ?_⟩
    rw [(land_cover hw c (i 0)).2]
    exact Finset.mem_filter.mpr ⟨Finset.mem_univ _, rfl⟩
  have h2 : ∀ z, (bigSep (sendSet w z c) fun r => outLoc c ↦[rowSet (landF (dst w) z r)]{fullShare} f : sProp 𝕄)
      = outLoc c ↦[(sendSet w z c).biUnion fun r => rowSet (landF (dst w) z r)]{fullShare} f := fun z => by
    symm
    refine pointsTo_biUnion (ℓ := outLoc c) _ _ fun r hr r' hr' hne => rowSet_disjoint ?_
    simp only [sendSet, Finset.mem_filter, Finset.mem_univ, _root_.true_and] at hr hr'
    exact land_ne hw hr hr' (Or.inr hne)
  rw [bigSep_congr fun z _ => h2 z]
  rw [← pointsTo_biUnion (ℓ := outLoc c) univ (fun z => (sendSet w z c).biUnion fun r => rowSet (landF (dst w) z r))]
  · exact congrArg (fun S => (outLoc c ↦[S]{fullShare} f : sProp 𝕄)) h1.symm
  · intro z _ z' _ hne
    rw [Finset.disjoint_biUnion_left]
    intro r hr
    rw [Finset.disjoint_biUnion_right]
    intro r' hr'
    simp only [sendSet, Finset.mem_filter, Finset.mem_univ, _root_.true_and] at hr hr'
    exact rowSet_disjoint (land_ne hw hr hr' (Or.inl hne))

/-! ## Duties and rows -/

/-- The duties of arriving rows, by the devices they come from. -/
theorem bigSep_comeD (c : Dev nD) (Φ : Duty → sProp 𝕄) :
    bigSep (comeD w c) Φ = bigSep ((univ : Finset (Dev nD)).erase c) fun z => bigSep (sendSet w z c) fun r => Φ (z, r) := by
  have h : comeD w c = (univ.erase c).biUnion fun z =>
      (sendSet w z c).map ⟨fun r => ((z, r) : Duty), fun _ _ h => (Prod.mk.inj h).2⟩ := by
    ext ⟨z, r⟩
    simp only [comeD, sendSet, Finset.mem_filter, Finset.mem_univ, _root_.true_and, Finset.mem_biUnion,
      Finset.mem_erase, and_true, Finset.mem_map, Function.Embedding.coeFn_mk]
    constructor
    · rintro ⟨h1, h2⟩
      exact ⟨z, h1, r, h2, rfl⟩
    · rintro ⟨z', h1, r', h2, h3⟩
      obtain ⟨rfl, rfl⟩ := Prod.mk.inj h3
      exact ⟨h1, h2⟩
  rw [h, bigSep_disjUnion]
  · refine bigSep_congr fun z _ => ?_
    rw [bigSep_map]
    rfl
  · intro z _ z' _ hne
    rw [Finset.disjoint_left]
    rintro ⟨a, b⟩ h1 h2
    simp only [Finset.mem_map, Function.Embedding.coeFn_mk] at h1 h2
    obtain ⟨r1, -, e1⟩ := h1
    obtain ⟨r2, -, e2⟩ := h2
    exact hne ((Prod.mk.inj e1).1.trans (Prod.mk.inj e2).1.symm)

/-- The rows of `c` from `t` on that leave. -/
def goSet (c : Dev nD) (t : ℕ) : Finset (Fin 2048) := univ.filter fun r => t ≤ r.val ∧ dst w c r ≠ c

/-- The duties of leaving rows. -/
theorem bigSep_awayD (c : Dev nD) (Φ : Duty → sProp 𝕄) :
    bigSep (awayD w c) Φ = bigSep (goSet w c 0) fun r => Φ (c, r) := by
  have h : awayD w c = (goSet w c 0).map ⟨fun r => ((c, r) : Duty), fun _ _ h => (Prod.mk.inj h).2⟩ := by
    ext ⟨z, r⟩
    simp only [awayD, goSet, Finset.mem_filter, Finset.mem_univ, _root_.true_and, Finset.mem_map, Function.Embedding.coeFn_mk,
      Nat.zero_le]
    constructor
    · rintro ⟨rfl, h2⟩
      exact ⟨r, h2, rfl⟩
    · rintro ⟨r', h2, h3⟩
      obtain ⟨rfl, rfl⟩ := Prod.mk.inj h3
      exact ⟨rfl, h2⟩
  rw [h, bigSep_map]
  rfl

/-- The leaving rows, by where they go. -/
theorem bigSep_goSet (c : Dev nD) (Φ : Fin 2048 → sProp 𝕄) :
    bigSep (goSet w c 0) Φ = bigSep ((univ : Finset (Dev nD)).erase c) fun q => bigSep (sendSet w c q) Φ := by
  have h : goSet w c 0 = (univ.erase c).biUnion fun q => sendSet w c q := by
    ext r
    simp only [goSet, sendSet, Finset.mem_filter, Finset.mem_univ, _root_.true_and, Finset.mem_biUnion,
      Finset.mem_erase, and_true, Nat.zero_le]
    constructor
    · intro h1
      exact ⟨_, h1, rfl⟩
    · rintro ⟨z', h1, rfl⟩
      exact h1
  rw [h, bigSep_disjUnion]
  intro z _ z' _ hne
  rw [Finset.disjoint_left]
  intro r h1 h2
  simp only [sendSet, Finset.mem_filter, Finset.mem_univ, _root_.true_and] at h1 h2
  exact hne (h1.symm.trans h2)

/-- All rows: those that leave and those that stay. -/
theorem bigSep_go_stay (c : Dev nD) (Φ : Fin 2048 → sProp 𝕄) :
    bigSep univ Φ = iprop(bigSep (goSet w c 0) Φ ∗ bigSep (sendSet w c c) Φ) := by
  refine Eq.trans ?_ (bigSep_union ?_)
  · congr 1
    ext r
    simp only [goSet, sendSet, Finset.mem_union, Finset.mem_filter, Finset.mem_univ, _root_.true_and, Nat.zero_le, true_iff]
    exact (em _).symm
  · rw [Finset.disjoint_left]
    intro r h1 h2
    simp only [goSet, sendSet, Finset.mem_filter, Finset.mem_univ, _root_.true_and] at h1 h2
    exact h1.2 h2

variable {w} in
/-- The landed rows and the rows that stayed are the whole result. -/
theorem out_join (hw : ∀ z, Good (w z)) (c : Dev nD) :
    iprop(bigSep (comeD w c) (rsemPay x w c) ∗ bigSep (sendSet w c c) (fun r => rsemPay x w c (c, r)))
      ⊢ (outLoc c ↦[univ]{fullShare} (outF x w c : Buf (Elt F) (outLoc c)) : sProp 𝕄) := by
  rw [out_rows hw, bigSep_univ_at _ c, bigSep_comeD]
  iintro ⟨HA, HB⟩
  isplitl [HB]
  · iexact HB
  · iexact HA

/-- A row at given contents is a row at some. -/
theorem toAny (c : Dev nD) (j : Fin 2048) (f : Buf (Elt F) (outLoc c)) :
    (outLoc c ↦[rowSet j]{fullShare} f : sProp 𝕄) ⊢ outAny c j := by
  unfold outAny; iintro H; iexists f; iexact H

variable {w} in
/-- The whole result is the rows the peers fill and the rows the device fills itself. -/
theorem out_cut (hw : ∀ z, Good (w z)) (c : Dev nD) (f : Buf (Elt F) (outLoc c)) :
    (outLoc c ↦[univ]{fullShare} f : sProp 𝕄)
      ⊢ iprop(bigSep (sendSet w c c) (fun r => outAny c (landF (dst w) c r))
          ∗ bigSep ((univ : Finset (Dev nD)).erase c) fun z => bigSep (sendSet w z c) fun r => outAny c (landF (dst w) z r)) := by
  rw [out_rows hw, bigSep_univ_split c]
  refine BIClass.sep_mono (bigSep_mono fun r _ => ?_) (bigSep_mono fun z _ => bigSep_mono fun r _ => ?_)
  · exact toAny c _ f
  · exact toAny c _ f

end Cert.KernelIdeal.Own
-- ==== Proof.Drain.lean ====
/-
  The loop that drains the kernel's row transfers: every trip waits for one row's units on the
  read-out cell and for one row's on the landing cell.  The units of different rows are alike, so the
  owner learns which rows have come only when the last trip closes the round.
-/
module

public import proofs.«01_k».proof.Proof.Splits

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Finset (univ filter)

variable {F : FTy → Type} [FloatOps F]

local notation "𝕄" => MT nD τ sig Unit (Elt F) ℕ UU ℕ

abbrev 𝒱₀ : Variants := Variants.none

variable (x : Dev nD → S2048x1024.Idx → Elt F .f32) (w : Dev nD → S2048.Idx → BitVec 32)

/-- Units of a cell, added. -/
theorem cred_units (g : GSem nD τ sig) (a b : ℕ) :
    (cred (tallyAt g () (a + b)) : sProp 𝕄) = iprop(cred (tallyAt g () a) ∗ cred (tallyAt g () b)) := by
  rw [← tallyAt_add]
  exact BI.Entails.antisymm (cred_add _ _).1 (cred_add _ _).2

/-- A cell of which `k` of `n` rows' units have been waited for: before the last, some of the round's
    deliveries are in hand; after it, the round is closed and all of them are. -/
def drained (g : GSem nD τ sig) (n k : ℕ) : sProp 𝕄 :=
  if k < n then iprop(∃ T : Finset Duty, ⌜T ⊆ (Rd x w).duties g 0⌝ ∗ atPos ER g 0 T (k * Nrow)
      ∗ bigSep T fun e => (Rd x w).payload g 0 e)
  else iprop(atPos ER g 1 ∅ 0 ∗ bigSep ((Rd x w).duties g 0) fun e => (Rd x w).payload g 0 e)

/-- Nothing waited for yet. -/
theorem drained_zero (g : GSem nD τ sig) {n : ℕ} (hn : 0 < n) :
    (atPos ER g 0 ∅ 0 : sProp 𝕄) ⊢ drained x w g n 0 := by
  unfold drained
  rw [if_pos hn]
  iintro H
  iexists ∅
  isplitr; · ipureintro; exact Finset.empty_subset _
  rw [Nat.zero_mul, bigSep_empty]
  isplitl [H]; · iexact H
  iempintro

/-- One more row's units waited for. -/
theorem drain_wait (c : Dev nD) {sm : SemLoc sig} {n k : ℕ} (hkn : k < n)
    (hexp : (Rd x w).expect ((c : Thread nD τ), sm) 0 = n * Nrow) {κ : ℕ}
    {e : TpuEff nD τ sig (Elt F) Λ₀ (c : Thread nD τ).2 PUnit}
    (hwe : ∀ K : PUnit → sProp 𝕄, wpE (defs₀ (F := F)) 𝒱₀ (c : Thread nD τ) none Set.univ e K = waitSpec (c : Thread nD τ) Set.univ sm Nrow K)
    {α : Type} {kk : PUnit → Prog (TpuEff nD τ sig (Elt F) Λ₀ (c : Thread nD τ).2) α} {Q : α → sProp 𝕄} :
    iprop(cellInv ER (Rd x w) κ ((c : Thread nD τ), sm) ∗ cred (tallyAt ((c : Thread nD τ), sm) () Nrow)
        ∗ (∃ W, owes (c : Thread nD τ) (0 : CellTallies nD τ sig Unit) W) ∗ drained x w ((c : Thread nD τ), sm) n k)
      ⊢ iprop((((∃ W, owes (c : Thread nD τ) (0 : CellTallies nD τ sig Unit) W) ∗ drained x w ((c : Thread nD τ), sm) n (k + 1))
            -∗ wp frame (wpE (defs₀ (F := F)) 𝒱₀ (c : Thread nD τ) none) Set.univ (kk ⟨⟩) Q)
          -∗ wp frame (wpE (defs₀ (F := F)) 𝒱₀ (c : Thread nD τ) none) Set.univ (.op e kk) Q) := by
  unfold drained
  rw [if_pos hkn]
  iintro ⟨#HI, Hc, ⟨%W, HO⟩, ⟨%T, %hT, Hat, HT⟩⟩ Hk
  by_cases hlast : k + 1 < n
  · iapply (Rounds.wp_wait 𝒱₀ ER (Rd x w) (c : Thread nD τ) none hwe (Set.mem_univ κ) (cr := Finsupp.single () Nrow) (O := 0) (W := W)
      {(sm, ())} (R := 0) (m := k * Nrow) (T := T) (Util.total_single _ _) (image_single_subset sm () Nrow)) $$ [Hc HO Hat]
    · isplitr; · iexact HI
      isplitl [Hc]; · iexact Hc
      isplitl [HO]; · iexact HO
      isplitr; · rw [MayOwe_zero]; iempintro
      iexact Hat
    iintro %S ⟨%hS, HO, Hat, HS⟩
    iapply Hk
    isplitl [HO]; · iexists _; iexact HO
    rw [if_pos hlast]
    iexists S
    isplitr; · ipureintro; exact hS.2.1
    isplitl [Hat]
    · rw [Nat.succ_mul]; iexact Hat
    · ihave H := (show iprop(bigSep T (fun e => (Rd x w).payload ((c : Thread nD τ), sm) 0 e) ∗ bigSep (S \ T) (fun e => (Rd x w).payload ((c : Thread nD τ), sm) 0 e))
          ⊢ bigSep S (fun e => (Rd x w).payload ((c : Thread nD τ), sm) 0 e) from Entails.of_eq (bigSep_sdiff_split hS.1).symm) $$ [HT HS]
      · isplitl [HT] <;> iassumption
      iexact H
  · have hk1 : k + 1 = n := by omega
    iapply (Rounds.wp_wait_rest_token 𝒱₀ ER (Rd x w) (c : Thread nD τ) none (κ := κ) hwe (Set.mem_univ κ) () (O := 0) (W := W) (R := 0)
      (m := k * Nrow) (T := T) (by rw [hexp, ← hk1, Nat.succ_mul])) $$ [Hc HO Hat]
    · isplitr; · iexact HI
      isplitl [Hc]; · iexact Hc
      isplitl [HO]; · iexact HO
      isplitr; · rw [MayWait_zero]; iempintro
      iexact Hat
    iintro ⟨HO, Hat, -, HS⟩
    iapply Hk
    isplitl [HO]; · iexists _; iexact HO
    rw [if_neg hlast]
    isplitl [Hat]; · iexact Hat
    ihave H := (show iprop(bigSep T (fun e => (Rd x w).payload ((c : Thread nD τ), sm) 0 e)
          ∗ bigSep ((Rd x w).duties ((c : Thread nD τ), sm) 0 \ T) (fun e => (Rd x w).payload ((c : Thread nD τ), sm) 0 e))
        ⊢ bigSep ((Rd x w).duties ((c : Thread nD τ), sm) 0) (fun e => (Rd x w).payload ((c : Thread nD τ), sm) 0 e)
        from Entails.of_eq (bigSep_sdiff_split hT).symm) $$ [HT HS]
    · isplitl [HT] <;> iassumption
    iexact H

/-! ## The cells and their invariants -/

def barEmb : Dev nD ↪ GSem nD τ sig := ⟨fun c => barCell c, fun _ _ h => congrArg (fun g : GSem nD τ sig => g.1.1) h⟩
theorem osem_inj : Function.Injective osem := by decide
def scEmb : Dev nD × Fin 10 ↪ GSem nD τ sig :=
  ⟨fun ck => oCell ck.1 ck.2, fun _ _ h =>
    Prod.ext (congrArg (fun g : GSem nD τ sig => g.1.1) h) (osem_inj (congrArg Prod.snd h))⟩

/-- The barrier cells and the transfer cells of all devices. -/
abbrev barCells : Finset (GSem nD τ sig) := Finset.univ.map barEmb
abbrev scCells : Finset (GSem nD τ sig) := Finset.univ.map scEmb

/-- Every cell's invariant, under one map of names, and round 0 of every barrier cell reached. -/
def recs (K : GSem nD τ sig → ℕ) : sProp 𝕄 :=
  iprop((bigSep (barCells ∪ scCells) fun g => cellInv ER (Rd x w) (K g) g) ∗ bigSep barCells fun g => reached ER g 0)

instance recs_persistent (K : GSem nD τ sig → ℕ) : BI.Persistent (recs x w K) := by unfold recs; infer_instance

theorem inv_bar (K : GSem nD τ sig → ℕ) (c : Dev nD) : recs x w K ⊢ cellInv ER (Rd x w) (K (barCell c)) (barCell c) := by
  unfold recs
  iintro ⟨#H, -⟩
  iapply (show (bigSep (barCells ∪ scCells) fun g => (cellInv ER (Rd x w) (K g) g : sProp 𝕄)) ⊢ cellInv ER (Rd x w) (K (barCell c)) (barCell c)
    from bigSep_elim (Finset.mem_union_left _ (Finset.mem_map_of_mem barEmb (Finset.mem_univ c))))
  iexact H

theorem inv_o (K : GSem nD τ sig → ℕ) (c : Dev nD) (i : Fin 10) : recs x w K ⊢ cellInv ER (Rd x w) (K (oCell c i)) (oCell c i) := by
  unfold recs
  iintro ⟨#H, -⟩
  iapply (show (bigSep (barCells ∪ scCells) fun g => (cellInv ER (Rd x w) (K g) g : sProp 𝕄)) ⊢ cellInv ER (Rd x w) (K (oCell c i)) (oCell c i)
    from bigSep_elim (Finset.mem_union_right _ (Finset.mem_map_of_mem scEmb (Finset.mem_univ (c, i)))))
  iexact H

theorem reached_bar (K : GSem nD τ sig → ℕ) (c : Dev nD) : recs x w K ⊢ reached ER (barCell c) 0 := by
  unfold recs
  iintro ⟨-, #H⟩
  iapply (show (bigSep barCells fun g => (reached ER g 0 : sProp 𝕄)) ⊢ reached ER (barCell c) 0
    from bigSep_elim (Finset.mem_map_of_mem barEmb (Finset.mem_univ c)))
  iexact H

/-! ## The loop -/

abbrev sem8 : DmaSems sig S3 := cc0_scratch4
abbrev sem9 : DmaSems sig S4 := cc0_scratch5
abbrev sem10 : DmaSems sig S_ := cc0_scratch6
abbrev sem11 : DmaSems sig S_ := cc0_scratch7
abbrev sem12 : DmaSems sig S_ := cc0_scratch8

abbrev destM : Memref sig .tc .smem S2048 .i32 := Memref.whole cc0_stg1_0
abbrev cntsM : Memref sig .tc .smem S4 .i32 := Memref.whole cc0_stg2_0
abbrev baseM : Memref sig .tc .smem S4 .i32 := Memref.whole cc0_scratch2
abbrev cntM : Memref sig .tc .smem S4 .i32 := Memref.whole cc0_scratch3

/-- What the drain holds before trip `k`. -/
def drainInv (K : GSem nD τ sig → ℕ) (c : Dev nD) (k : ℕ) (_ : Unit) : sProp 𝕄 :=
  iprop(recs x w K ∗ (∃ W, owes (c : Thread nD τ) (0 : CellTallies nD τ sig Unit) W)
    ∗ cred (tallyAt (ssemCell c) () ((1536 - k) * Nrow)) ∗ cred (tallyAt (rsemCell c) () ((1536 - k) * Nrow))
    ∗ drained x w (ssemCell c) 1536 k ∗ drained x w (rsemCell c) 1536 k)

variable {w} in
theorem drain_trip (hw : ∀ z, Good (w z)) (K : GSem nD τ sig → ℕ) (c : Dev nD) (v : BitVec 32) (hv : k0_chk4 v)
    (k : Fin (k0_t3_loop v).trips) (hk : k.val < 1536) (acc : Unit) :
    drainInv x w K c k.val acc
      ⊢ wp frame (wpE (defs₀ (F := F)) 𝒱₀ (c : Thread nD τ) none) Set.univ
          (k0_t3_body (F := F) xM (Memref.isWhole_whole _) destM (Memref.isWhole_whole _) cntsM (Memref.isWhole_whole _) outM (Memref.isWhole_whole _)
            cgM (Memref.isWhole_whole _) csmM (Memref.isWhole_whole _) baseM (Memref.isWhole_whole _) cntM (Memref.isWhole_whole _)
            sem8 sem9 sem10 sem11 sem12 v hv k acc)
          (drainInv x w K c (k.val + 1)) := by
  unfold drainInv
  have e : (1536 - k.val) * Nrow = (1536 - (k.val + 1)) * Nrow + Nrow := by
    rw [← Nat.succ_mul]; congr 1; omega
  rw [e, cred_units, cred_units]
  iintro ⟨#HI, HO, ⟨Hs, Hs1⟩, ⟨Hr, Hr1⟩, Ds, Dr⟩
  unfold k0_t3_body
  simp only [Prog.lift, Prog.bind_op, Prog.bind_ret]
  iapply (drain_wait x w c hk (exp_ssem x hw c) (κ := K (ssemCell c))
    (wpE_waitDma2_eq 𝒱₀ (c : Thread nD τ) none Set.univ)) $$ [HO Hs1 Ds]
  · isplitr; · iapply (inv_o x w K c 8); iexact HI
    isplitl [Hs1]; · iexact Hs1
    isplitl [HO] <;> iassumption
  iintro ⟨HO, Ds⟩
  iapply (drain_wait x w c hk (exp_rsem x hw c) (κ := K (rsemCell c))
    (wpE_waitDma2_eq 𝒱₀ (c : Thread nD τ) none Set.univ)) $$ [HO Hr1 Dr]
  · isplitr; · iapply (inv_o x w K c 9); iexact HI
    isplitl [Hr1]; · iexact Hr1
    isplitl [HO] <;> iassumption
  iintro ⟨HO, Dr⟩
  rw [wp_pure]
  imodintro
  isplitr; · iexact HI
  isplitl [HO]; · iexact HO
  isplitl [Hs]; · iexact Hs
  isplitl [Hr]; · iexact Hr
  isplitl [Ds] <;> iassumption

end Cert.KernelIdeal.Own
-- ==== Proof.Words.lean ====
/-
  Words of scalar memory: what the kernel's loads of its tables read and its stores leave, and the
  kernel's conditions and offsets at the words its tables hold.
-/
module

public import proofs.«01_k».proof.Proof.Drain

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen
open Finset (univ filter)

variable {F : FTy → Type} [FloatOps F]

local notation "𝕄" => MT nD τ sig Unit (Elt F) ℕ UU ℕ

/-! ## Tables -/

/-- Entry `k` of a table of four words. -/
def ix4 (k : Fin 4) : S4.Idx := fun a => ⟨k.val, by have : a = 0 := Subsingleton.elim _ _; subst this; exact k.isLt⟩

/-- The entry an index names. -/
def ent (i : S4.Idx) : Fin 4 := i 0

theorem ent_ix4 (k : Fin 4) : ent (ix4 k) = k := rfl

/-- The first landing row of device `c`'s block, at every device. -/
def baseF (c : Dev nD) : S4.Idx → BitVec 32 := fun _ => BitVec.ofNat 32 (512 * c.val)

/-- How many of the first `t` rows go to each device. -/
def cntF (d : Fin 2048 → Fin 4) (t : ℕ) : S4.Idx → BitVec 32 := fun i => BitVec.ofNat 32 (before d (ent i) t)

theorem emb_dest {off : Fin 1 → ℕ} {r : Fin 2048} (h : off = ![r.val]) (inb)
    (y : (Rect.unit (s := S2048) off S1.size inb).shape.Idx) :
    (Rect.unit (s := S2048) off S1.size inb).emb y = vecIx r := by
  subst h
  funext a
  have ha : a = 0 := Subsingleton.elim _ _
  subst ha
  apply Fin.ext
  show r.val + 1 * (y 0).val = r.val
  have : (y 0).val < 1 := (y 0).isLt
  omega

theorem emb_four {off : Fin 1 → ℕ} {k : Fin 4} (h : off = ![k.val]) (inb)
    (y : (Rect.unit (s := S4) off S1.size inb).shape.Idx) :
    (Rect.unit (s := S4) off S1.size inb).emb y = ix4 k := by
  subst h
  funext a
  have ha : a = 0 := Subsingleton.elim _ _
  subst ha
  apply Fin.ext
  show k.val + 1 * (y 0).val = k.val
  have : (y 0).val < 1 := (y 0).isLt
  omega

/-- A load from the table of destinations. -/
theorem wp_dest (c : Dev nD) {α : Type} {Q : α → sProp 𝕄} {off : Fin 1 → ℕ} {r : Fin 2048} (h : off = ![r.val]) (inb) {hl} {y} {q : PosShare TreeShare}
    (f : S2048.Idx → BitVec 32) {k : Elt F .i32 → Prog (TpuEff nD τ sig (Elt F) Λ₀ (c : Thread nD τ).2) α} :
    (destLoc c ↦[univ]{q} (f : Buf (Elt F) (destLoc c)) : sProp 𝕄)
      ⊢ iprop(((destLoc c ↦[univ]{q} (f : Buf (Elt F) (destLoc c))) -∗ wp frame (wpE (defs₀ (F := F)) 𝒱₀ (c : Thread nD τ) none) Set.univ (k (f (vecIx r))) Q)
        -∗ wp frame (wpE (defs₀ (F := F)) 𝒱₀ (c : Thread nD τ) none) Set.univ
            (smemLoadElt destM (Rect.unit (s := S2048) off S1.size inb) hl y k) Q) := by
  have e : (destM.access (Rect.unit (s := S2048) off S1.size inb)).read (Elt F) f y = f (vecIx r) :=
    congrArg f (emb_dest h inb y)
  iintro H Hk
  iapply (wp_smemLoadElt (defs := defs₀ (F := F)) (Γ := .empty) 𝒱₀ (c : Thread nD τ) none Set.univ (m := destM)
    (r := Rect.unit (s := S2048) off S1.size inb) (x := y) (S := univ) (q := q) (f := f) (Finset.subset_univ _)) $$ H
  rw [e]
  iexact Hk

/-- A load from the table of counts, -/
theorem wp_cnts (c : Dev nD) {α : Type} {Q : α → sProp 𝕄} {off : Fin 1 → ℕ} {j : Fin 4} (h : off = ![j.val]) (inb) {hl} {y} {q : PosShare TreeShare}
    (f : S4.Idx → BitVec 32) {k : Elt F .i32 → Prog (TpuEff nD τ sig (Elt F) Λ₀ (c : Thread nD τ).2) α} :
    (cntsLoc c ↦[univ]{q} (f : Buf (Elt F) (cntsLoc c)) : sProp 𝕄)
      ⊢ iprop(((cntsLoc c ↦[univ]{q} (f : Buf (Elt F) (cntsLoc c))) -∗ wp frame (wpE (defs₀ (F := F)) 𝒱₀ (c : Thread nD τ) none) Set.univ (k (f (ix4 j))) Q)
        -∗ wp frame (wpE (defs₀ (F := F)) 𝒱₀ (c : Thread nD τ) none) Set.univ
            (smemLoadElt cntsM (Rect.unit (s := S4) off S1.size inb) hl y k) Q) := by
  have e : (cntsM.access (Rect.unit (s := S4) off S1.size inb)).read (Elt F) f y = f (ix4 j) :=
    congrArg f (emb_four h inb y)
  iintro H Hk
  iapply (wp_smemLoadElt (defs := defs₀ (F := F)) (Γ := .empty) 𝒱₀ (c : Thread nD τ) none Set.univ (m := cntsM)
    (r := Rect.unit (s := S4) off S1.size inb) (x := y) (S := univ) (q := q) (f := f) (Finset.subset_univ _)) $$ H
  rw [e]
  iexact Hk

/-- from the table of first landing rows, -/
theorem wp_base (c : Dev nD) {α : Type} {Q : α → sProp 𝕄} {off : Fin 1 → ℕ} {j : Fin 4} (h : off = ![j.val]) (inb) {hl} {y} {q : PosShare TreeShare}
    (f : S4.Idx → BitVec 32) {k : Elt F .i32 → Prog (TpuEff nD τ sig (Elt F) Λ₀ (c : Thread nD τ).2) α} :
    (baseLoc c ↦[univ]{q} (f : Buf (Elt F) (baseLoc c)) : sProp 𝕄)
      ⊢ iprop(((baseLoc c ↦[univ]{q} (f : Buf (Elt F) (baseLoc c))) -∗ wp frame (wpE (defs₀ (F := F)) 𝒱₀ (c : Thread nD τ) none) Set.univ (k (f (ix4 j))) Q)
        -∗ wp frame (wpE (defs₀ (F := F)) 𝒱₀ (c : Thread nD τ) none) Set.univ
            (smemLoadElt baseM (Rect.unit (s := S4) off S1.size inb) hl y k) Q) := by
  have e : (baseM.access (Rect.unit (s := S4) off S1.size inb)).read (Elt F) f y = f (ix4 j) :=
    congrArg f (emb_four h inb y)
  iintro H Hk
  iapply (wp_smemLoadElt (defs := defs₀ (F := F)) (Γ := .empty) 𝒱₀ (c : Thread nD τ) none Set.univ (m := baseM)
    (r := Rect.unit (s := S4) off S1.size inb) (x := y) (S := univ) (q := q) (f := f) (Finset.subset_univ _)) $$ H
  rw [e]
  iexact Hk

/-- and from the table of rows counted so far. -/
theorem wp_cnt (c : Dev nD) {α : Type} {Q : α → sProp 𝕄} {off : Fin 1 → ℕ} {j : Fin 4} (h : off = ![j.val]) (inb) {hl} {y} {q : PosShare TreeShare}
    (f : S4.Idx → BitVec 32) {k : Elt F .i32 → Prog (TpuEff nD τ sig (Elt F) Λ₀ (c : Thread nD τ).2) α} :
    (cntLoc c ↦[univ]{q} (f : Buf (Elt F) (cntLoc c)) : sProp 𝕄)
      ⊢ iprop(((cntLoc c ↦[univ]{q} (f : Buf (Elt F) (cntLoc c))) -∗ wp frame (wpE (defs₀ (F := F)) 𝒱₀ (c : Thread nD τ) none) Set.univ (k (f (ix4 j))) Q)
        -∗ wp frame (wpE (defs₀ (F := F)) 𝒱₀ (c : Thread nD τ) none) Set.univ
            (smemLoadElt cntM (Rect.unit (s := S4) off S1.size inb) hl y k) Q) := by
  have e : (cntM.access (Rect.unit (s := S4) off S1.size inb)).read (Elt F) f y = f (ix4 j) :=
    congrArg f (emb_four h inb y)
  iintro H Hk
  iapply (wp_smemLoadElt (defs := defs₀ (F := F)) (Γ := .empty) 𝒱₀ (c : Thread nD τ) none Set.univ (m := cntM)
    (r := Rect.unit (s := S4) off S1.size inb) (x := y) (S := univ) (q := q) (f := f) (Finset.subset_univ _)) $$ H
  rw [e]
  iexact Hk

/-- A table of four with one entry replaced. -/
def setF (f : S4.Idx → BitVec 32) (k : Fin 4) (v : BitVec 32) : S4.Idx → BitVec 32 := fun i => if ent i = k then v else f i

theorem write_base {off : Fin 1 → ℕ} {j : Fin 4} (h : off = ![j.val]) (inb) (f : S4.Idx → BitVec 32) (v : BitVec 32) :
    (baseM.access (Rect.unit (s := S4) off S1.size inb)).write (Elt F) f (fun _ => v) univ = setF f j v := by
  funext i
  unfold setF
  by_cases hi : ent i = j
  · have hm : i = (baseM.access (Rect.unit (s := S4) off S1.size inb)).emb (Shape.Idx.first (s := S1) Nat.one_pos) := by
      refine Eq.trans ?_ (emb_four h inb _).symm
      funext a
      have ha : a = (0 : Fin 1) := Subsingleton.elim (α := Fin 1) _ _
      subst ha
      exact hi
    rw [if_pos hi, hm, View.write_emb_of_mem _ _ (Finset.mem_univ _)]
    rfl
  · rw [if_neg hi]
    refine View.write_of_not_mem (Val := Elt F) (v := baseM.access (Rect.unit (s := S4) off S1.size inb)) f (fun _ => v) univ ?_
    intro hmem
    obtain ⟨y, -, rfl⟩ := Finset.mem_map.mp hmem
    exact hi (congrFun (emb_four h inb y) 0)

theorem write_cnt {off : Fin 1 → ℕ} {j : Fin 4} (h : off = ![j.val]) (inb) (f : S4.Idx → BitVec 32) (v : BitVec 32) :
    (cntM.access (Rect.unit (s := S4) off S1.size inb)).write (Elt F) f (fun _ => v) univ = setF f j v := by
  funext i
  unfold setF
  by_cases hi : ent i = j
  · have hm : i = (cntM.access (Rect.unit (s := S4) off S1.size inb)).emb (Shape.Idx.first (s := S1) Nat.one_pos) := by
      refine Eq.trans ?_ (emb_four h inb _).symm
      funext a
      have ha : a = (0 : Fin 1) := Subsingleton.elim (α := Fin 1) _ _
      subst ha
      exact hi
    rw [if_pos hi, hm, View.write_emb_of_mem _ _ (Finset.mem_univ _)]
    rfl
  · rw [if_neg hi]
    refine View.write_of_not_mem (Val := Elt F) (v := cntM.access (Rect.unit (s := S4) off S1.size inb)) f (fun _ => v) univ ?_
    intro hmem
    obtain ⟨y, -, rfl⟩ := Finset.mem_map.mp hmem
    exact hi (congrFun (emb_four h inb y) 0)

/-- A store into the table of first landing rows, -/
theorem wp_setBase (c : Dev nD) {α : Type} {Q : α → sProp 𝕄} {off : Fin 1 → ℕ} {j : Fin 4} (h : off = ![j.val]) (inb) {hx} {hm} (v : BitVec 32)
    (f : S4.Idx → BitVec 32) {k : PUnit → Prog (TpuEff nD τ sig (Elt F) Λ₀ (c : Thread nD τ).2) α} :
    (baseLoc c ↦[univ]{fullShare} (f : Buf (Elt F) (baseLoc c)) : sProp 𝕄)
      ⊢ iprop(((baseLoc c ↦[univ]{fullShare} (setF f j v : Buf (Elt F) (baseLoc c))) -∗ wp frame (wpE (defs₀ (F := F)) 𝒱₀ (c : Thread nD τ) none) Set.univ (k ⟨⟩) Q)
        -∗ wp frame (wpE (defs₀ (F := F)) 𝒱₀ (c : Thread nD τ) none) Set.univ
            (.op (.store baseM (Rect.unit (s := S4) off S1.size inb) (fun _ => v) univ hx hm) k) Q) := by
  iintro H Hk
  iapply (wp_store (defs := defs₀ (F := F)) (Γ := .empty) 𝒱₀ (c : Thread nD τ) none Set.univ (m := baseM)
    (r := Rect.unit (s := S4) off S1.size inb) (S := univ) (f := f) (Finset.subset_univ _)) $$ H
  rw [write_base (F := F) h inb f v]
  iexact Hk

/-- and into the table of rows counted so far. -/
theorem wp_setCnt (c : Dev nD) {α : Type} {Q : α → sProp 𝕄} {off : Fin 1 → ℕ} {j : Fin 4} (h : off = ![j.val]) (inb) {hx} {hm} (v : BitVec 32)
    (f : S4.Idx → BitVec 32) {k : PUnit → Prog (TpuEff nD τ sig (Elt F) Λ₀ (c : Thread nD τ).2) α} :
    (cntLoc c ↦[univ]{fullShare} (f : Buf (Elt F) (cntLoc c)) : sProp 𝕄)
      ⊢ iprop(((cntLoc c ↦[univ]{fullShare} (setF f j v : Buf (Elt F) (cntLoc c))) -∗ wp frame (wpE (defs₀ (F := F)) 𝒱₀ (c : Thread nD τ) none) Set.univ (k ⟨⟩) Q)
        -∗ wp frame (wpE (defs₀ (F := F)) 𝒱₀ (c : Thread nD τ) none) Set.univ
            (.op (.store cntM (Rect.unit (s := S4) off S1.size inb) (fun _ => v) univ hx hm) k) Q) := by
  iintro H Hk
  iapply (wp_store (defs := defs₀ (F := F)) (Γ := .empty) 𝒱₀ (c : Thread nD τ) none Set.univ (m := cntM)
    (r := Rect.unit (s := S4) off S1.size inb) (S := univ) (f := f) (Finset.subset_univ _)) $$ H
  rw [write_cnt (F := F) h inb f v]
  iexact Hk

/-! ## Conditions and offsets -/

/-- The device's own number, as the kernel computes it. -/
theorem self_word (c : Dev nD) :
    Scalar.remsi (Scalar.divsi (Dev.word c) 1#32) 4#32 = BitVec.ofNat 32 c.val := by revert c; decide

theorem cond1_iff (c : Dev nD) {v : BitVec 32} (hv : v.toNat < 4) : k0_cond1 c v = 1#1 ↔ toDev v ≠ c := by
  rw [← toDev_word hv]
  generalize toDev v = k
  have : toDev (BitVec.ofNat 32 k.val) = k := by revert k; decide
  rw [this]
  revert c k; decide

theorem cond2_iff (c : Dev nD) {v : BitVec 32} (hv : v.toNat < 4) : k0_cond2 c v = 1#1 ↔ toDev v = c := by
  rw [← toDev_word hv]
  generalize toDev v = k
  have : toDev (BitVec.ofNat 32 k.val) = k := by revert k; decide
  rw [this]
  revert c k; decide

theorem off7_of {v : BitVec 32} (hv : v.toNat < 4) : k0_off7 v = ![(toDev v).val] := by
  rw [toDev_val hv]; rfl

theorem dev7_of {v : BitVec 32} (hv : v.toNat < 4) : k0_dev7 v = (toDev v).val := by
  rw [← toDev_word hv]
  generalize toDev v = k
  have : toDev (BitVec.ofNat 32 k.val) = k := by revert k; decide
  rw [this]
  revert k; decide

theorem off8_of {a b n : ℕ} (h : a + b = n) (hn : n < 2048) : k0_off8 (BitVec.ofNat 32 b) (BitVec.ofNat 32 a) = ![n, 0] := by
  show ![(BitVec.ofNat 32 a + BitVec.ofNat 32 b).toNat, 0] = _
  rw [← BitVec.ofNat_add, BitVec.toNat_ofNat, Nat.mod_eq_of_lt (by omega), h]

theorem off13_of {a b n : ℕ} (h : a + b = n) (hn : n < 2048) : k0_off13 (BitVec.ofNat 32 b) (BitVec.ofNat 32 a) = ![n, 0] := by
  show ![(BitVec.ofNat 32 a + BitVec.ofNat 32 b).toNat, 0] = _
  rw [← BitVec.ofNat_add, BitVec.toNat_ofNat, Nat.mod_eq_of_lt (by omega), h]

/-- Counting a row: its destination's entry rises by one. -/
theorem cntF_succ (d : Fin 2048 → Fin 4) (r : Fin 2048) :
    setF (cntF d r.val) (d r) (cntF d r.val (ix4 (d r)) + 1#32) = cntF d (r.val + 1) := by
  funext i
  unfold setF cntF
  rw [before_succ]
  by_cases h : ent i = d r
  · rw [if_pos h, h, if_pos rfl, ent_ix4]
    exact (BitVec.ofNat_add _ _).symm
  · rw [if_neg h, if_neg (fun e => h e.symm), Nat.add_zero]

end Cert.KernelIdeal.Own
-- ==== Proof.Sends.lean ====
/-
  The loop that sends every row to its destination: trip `t` counts row `t` and, unless the row stays,
  starts its transfer to the row of the destination's result where it lands.
-/
module

public import proofs.«01_k».proof.Proof.Words

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Finset (univ filter)

variable {F : FTy → Type} [FloatOps F]

local notation "𝕄" => MT nD τ sig Unit (Elt F) ℕ UU ℕ

variable (x : Dev nD → S2048x1024.Idx → Elt F .f32) (w : Dev nD → S2048.Idx → BitVec 32)

variable {w} in
/-- The row where row `r` of device `c` lands holds, at its destination, that row. -/
theorem outF_land (hw : ∀ z, Good (w z)) (c : Dev nD) (r : Fin 2048) {q : Dev nD} (hq : dst w c r = q) :
    ∀ i ∈ rowSet (landF (dst w) c r), outF x w q i = x c (rcIx r (i 1)) := by
  intro i hi
  have hE : ∀ z, Even (dst w z) := fun z => (hw z).even
  have h0 : i 0 = landF (dst w) c r := Fin.ext (Finset.mem_filter.mp hi).2
  unfold outF
  rw [h0, landF_fromDev hE, ← hq, rowAt_landF hE]

/-- What the transfer of a row of `c` needs and uses up. -/
def goRow (c : Dev nD) (r : Fin 2048) : sProp 𝕄 :=
  iprop((xLoc c ↦[rowSet r]{fullShare} (x c : Buf (Elt F) (xLoc c))) ∗ outAny (dst w c r) (landF (dst w) c r)
    ∗ dutyTok ER (ssemCell c) 0 (c, r) ∗ dutyTok ER (rsemCell (dst w c r)) 0 (c, r))

variable {w} in
/-- The transfer of a row. -/
theorem send_row (hw : ∀ z, Good (w z)) (K : GSem nD τ sig → ℕ) (c : Dev nD) (r : Fin 2048) {q : Dev nD} (hq : dst w c r = q) (hne : q ≠ c)
    {off off' : Fin 2 → ℕ} (h : off = ![r.val, 0]) (h' : off' = ![(landF (dst w) c r).val, 0]) (inb inb')
    (O : CellTallies nD τ sig Unit) {W : Waits sig Unit} {hsc} {hsrc} {hdst} {hsem} {α : Type} {Q : α → sProp 𝕄}
    {k : PUnit → Prog (TpuEff nD τ sig (Elt F) Λ₀ (c : Thread nD τ).2) α} :
    iprop(recs x w K ∗ goRow x w c r ∗ owes (c : Thread nD τ) (O + tallyAt (rsemCell q) () Nrow) W
        ∗ reached ER (ssemCell c) 0 ∗ reached ER (rsemCell q) 0)
      ⊢ iprop(((cred (tallyAt (ssemCell c) () Nrow) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xRow off inb) (.remote (Dev.tc q) (outRow off' inb') (.dma sem11.sem) hsc) (.dma sem12.sem) hsrc hdst hsem) k) Q) := by
  unfold goRow
  rw [hq]
  unfold outAny
  iintro ⟨#HI, ⟨Hx, ⟨%fd, Ho⟩, Ht, Ht'⟩, HO, #Hr, #Hr'⟩ Hk
  have hd₁ : ((c, r) : Duty) ∈ (Rd x w).duties (ssemCell c) 0 := by
    rw [dut_ssem]; exact Finset.mem_filter.mpr ⟨Finset.mem_univ _, rfl, hq ▸ hne⟩
  have hd₂ : ((c, r) : Duty) ∈ (Rd x w).duties (rsemCell q) 0 := by
    rw [dut_rsem]; exact Finset.mem_filter.mpr ⟨Finset.mem_univ _, fun e => hne e.symm, hq⟩
  iapply (Rounds.wp_send_pointsTo (defs := defs₀ (F := F)) 𝒱₀ ER (Rd x w) (c : Thread nD τ) none (c' := (q : Thread nD τ))
    (src := xRow off inb) (dst := outRow off' inb') (sS := .dma sem11.sem) (sem := .dma sem12.sem) (q := fullShare)
    (fs := (x c : Buf (Elt F) (xLoc c))) (fd := fd) (r₁ := 0) (r₂ := 0) (d₁ := (c, r)) (d₂ := (c, r))
    (κ₁ := K (ssemCell c)) (κ₂ := K (rsemCell q)) hd₁ hd₂ () () Nrow rfl rfl rfl O rfl (W := W) ?p1 ?p2) $$ [Hx Ho Ht Ht' HO]
  case p1 =>
    rw [set_xRow h inb]
    exact .rfl
  case p2 =>
    rw [set_outRow h' inb']
    refine Entails.of_eq ?_
    refine pointsTo_congr ?_
    intro i hi
    rw [outF_land x hw c r hq i hi]
    exact write_outRow h' h inb' inb fd (x c) i hi
  · isplitr; · iapply (inv_o x w K c 8); iexact HI
    isplitr; · iapply (inv_o x w K q 9); iexact HI
    isplitl [Hx]; · rw [set_xRow h inb]; iexact Hx
    isplitl [Ho]; · rw [set_outRow h' inb']; iexact Ho
    isplitl [HO]; · iexact HO
    isplitl [Ht]; · iexact Ht
    isplitr; · iexact Hr
    isplitl [Ht']; · iexact Ht'
    iexact Hr'
  iintro H
  iapply Hk
  iexact H

/-! ## The trips' bookkeeping -/

/-- A row that leaves is the next of those still to go; -/
theorem goSet_step (c : Dev nD) (r : Fin 2048) (h : dst w c r ≠ c) : goSet w c r.val = insert r (goSet w c (r.val + 1)) := by
  ext s
  simp only [goSet, Finset.mem_insert, Finset.mem_filter, Finset.mem_univ, _root_.true_and]
  constructor
  · rintro ⟨h1, h2⟩
    by_cases hs : s = r
    · exact Or.inl hs
    · exact Or.inr ⟨by have : s.val ≠ r.val := fun e => hs (Fin.ext e); omega, h2⟩
  · rintro (rfl | ⟨h1, h2⟩)
    · exact ⟨le_rfl, h⟩
    · exact ⟨by omega, h2⟩

theorem goSet_not_mem (c : Dev nD) (r : Fin 2048) : r ∉ goSet w c (r.val + 1) := by
  simp only [goSet, Finset.mem_filter, Finset.mem_univ, _root_.true_and]
  omega

theorem bigSep_goSet_step (c : Dev nD) (r : Fin 2048) (h : dst w c r ≠ c) (Φ : Fin 2048 → sProp 𝕄) :
    bigSep (goSet w c r.val) Φ = iprop(Φ r ∗ bigSep (goSet w c (r.val + 1)) Φ) := by
  rw [goSet_step w c r h, bigSep_insert (goSet_not_mem w c r)]
  rfl

/-- a row that stays changes nothing. -/
theorem goSet_stay (c : Dev nD) (r : Fin 2048) (h : dst w c r = c) : goSet w c r.val = goSet w c (r.val + 1) := by
  ext s
  simp only [goSet, Finset.mem_filter, Finset.mem_univ, _root_.true_and]
  constructor
  · rintro ⟨h1, h2⟩
    have : s.val ≠ r.val := fun e => h2 (by rw [Fin.ext e]; exact h)
    exact ⟨by omega, h2⟩
  · rintro ⟨h1, h2⟩
    exact ⟨by omega, h2⟩

theorem goSet_end (c : Dev nD) : goSet w c 2048 = ∅ := by
  ext s
  have := s.isLt
  simp only [goSet, Finset.mem_filter, Finset.mem_univ, _root_.true_and, Finset.notMem_empty, iff_false]
  omega

/-- How many of the first `t` rows of `c` have left. -/
def gone (c : Dev nD) (t : ℕ) : ℕ := (goSet w c 0).card - (goSet w c t).card

theorem goSet_le (c : Dev nD) (t : ℕ) : (goSet w c t).card ≤ (goSet w c 0).card :=
  Finset.card_le_card fun r h => by
    simp only [goSet, Finset.mem_filter, Finset.mem_univ, _root_.true_and, Nat.zero_le] at h ⊢
    exact h.2

theorem gone_step (c : Dev nD) (r : Fin 2048) (h : dst w c r ≠ c) : gone w c (r.val + 1) = gone w c r.val + 1 := by
  have h1 := goSet_le w c r.val
  unfold gone
  rw [goSet_step w c r h, Finset.card_insert_of_notMem (goSet_not_mem w c r)] at h1 ⊢
  omega

theorem gone_zero (c : Dev nD) : gone w c 0 = 0 := Nat.sub_self _

variable {w} in
theorem gone_end (hw : ∀ z, Good (w z)) (c : Dev nD) : gone w c 2048 = 1536 := by
  unfold gone
  rw [goSet_end, Finset.card_empty, Nat.sub_zero, ← card_away (hw c).even c]
  congr 1
  ext r
  simp only [goSet, Finset.mem_filter, Finset.mem_univ, _root_.true_and, Nat.zero_le]

theorem Orow_step (c : Dev nD) (r : Fin 2048) (h : dst w c r ≠ c) :
    Orow w c r.val = Orow w c (r.val + 1) + tallyAt (rsemCell (dst w c r)) () Nrow := by
  show ∑ s ∈ goSet w c r.val, _ = ∑ s ∈ goSet w c (r.val + 1), _ + _
  rw [goSet_step w c r h, Finset.sum_insert (goSet_not_mem w c r), add_comm]

theorem Orow_stay (c : Dev nD) (r : Fin 2048) (h : dst w c r = c) : Orow w c r.val = Orow w c (r.val + 1) := by
  show ∑ s ∈ goSet w c r.val, _ = ∑ s ∈ goSet w c (r.val + 1), _
  rw [goSet_stay w c r h]

theorem Orow_end (c : Dev nD) : Orow w c 2048 = 0 := by
  show ∑ s ∈ goSet w c 2048, _ = _
  rw [goSet_end, Finset.sum_empty]

/-! ## The loop -/

/-- What the sending loop holds before trip `t`. -/
def sendInv (K : GSem nD τ sig → ℕ) (c : Dev nD) (t : ℕ) (_ : Unit) : sProp 𝕄 :=
  iprop(recs x w K ∗ reached ER (ssemCell c) 0 ∗ (bigSep (univ.erase c) fun q => reached ER (rsemCell q) 0)
    ∗ (destLoc c ↦[univ]{fullShare} (w c : Buf (Elt F) (destLoc c)))
    ∗ (baseLoc c ↦[univ]{fullShare} (baseF c : Buf (Elt F) (baseLoc c)))
    ∗ (cntLoc c ↦[univ]{fullShare} (cntF (dst w c) t : Buf (Elt F) (cntLoc c)))
    ∗ bigSep (goSet w c t) (goRow x w c) ∗ cred (tallyAt (ssemCell c) () (gone w c t * Nrow))
    ∗ ∃ W, owes (c : Thread nD τ) (Orow w c t) W)

variable {w} in
theorem send_trip (hw : ∀ z, Good (w z)) (K : GSem nD τ sig → ℕ) (c : Dev nD) (t : Fin k0_t1_loop.trips) (acc : Unit) :
    sendInv x w K c t.val acc
      ⊢ wp frame (wpE (defs₀ (F := F)) 𝒱₀ (c : Thread nD τ) none) Set.univ
          (k0_t1_body (F := F) xM (Memref.isWhole_whole _) destM (Memref.isWhole_whole _) cntsM (Memref.isWhole_whole _) outM (Memref.isWhole_whole _)
            cgM (Memref.isWhole_whole _) csmM (Memref.isWhole_whole _) baseM (Memref.isWhole_whole _) cntM (Memref.isWhole_whole _)
            sem8 sem9 sem10 sem11 sem12 c t acc)
          (sendInv x w K c (t.val + 1)) := by
  have ht : t.val < 2048 := lt_of_lt_of_le t.isLt k0_t1_abs.2.1
  obtain ⟨r, hr⟩ : ∃ r : Fin 2048, t.val = r.val := ⟨⟨t.val, ht⟩, rfl⟩
  have hE : ∀ z, Even (dst w z) := fun z => (hw z).even
  have hlt : (w c (vecIx r)).toNat < 4 := (hw c).lt r
  have hoff7 : k0_off7 (w c (vecIx r)) = ![(dst w c r).val] := off7_of hlt
  have hv6 : cntF (dst w c) t.val (ix4 (dst w c r)) = BitVec.ofNat 32 (rank (dst w c) r) := by
    unfold cntF rank; rw [ent_ix4, hr]
  have hland : 512 * c.val + rank (dst w c) r = (landF (dst w) c r).val := by rw [landF_val hE]; rfl
  have hoff8 : k0_off8 (cntF (dst w c) t.val (ix4 (dst w c r))) (baseF c (ix4 (dst w c r))) = ![(landF (dst w) c r).val, 0] := by
    rw [hv6]; exact off8_of hland (landF (dst w) c r).isLt
  have hc1 : k0_chk1 c (w c (vecIx r)) := by
    refine ⟨?_, fun _ => ?_⟩
    · rw [off7_of hlt]
      intro a
      have ha : a = (0 : Fin 1) := Subsingleton.elim (α := Fin 1) _ _
      subst ha
      exact (toDev (w c (vecIx r))).isLt
    · rw [dev7_of hlt]; exact (toDev (w c (vecIx r))).isLt
  have hc2 : k0_chk2 c (w c (vecIx r)) (cntF (dst w c) t.val (ix4 (dst w c r))) (baseF c (ix4 (dst w c r))) := by
    intro _
    rw [hoff8]
    intro a
    fin_cases a
    · exact (landF (dst w) c r).isLt
    · exact le_rfl
  unfold sendInv
  iintro ⟨#HI, #Hs, #Hq, Hd, Hb, Hc, Hgo, Hcr, ⟨%W, HO⟩⟩
  unfold k0_t1_body smemLoad
  simp only [smemLoadElt_bind, Prog.lift, Prog.bind_op, Prog.bind_ret]
  iapply (wp_dest c (r := r) ((k0_off6_eq t).trans (by rw [hr])) _ (w c)) $$ Hd
  iintro Hd
  iapply (wp_assume (defs := defs₀ (F := F)) 𝒱₀ (c : Thread nD τ) none Set.univ hc1)
  iapply (wp_cnt c hoff7 _ (cntF (dst w c) t.val)) $$ Hc
  iintro Hc
  iapply (wp_base c hoff7 _ (baseF c)) $$ Hb
  iintro Hb
  iapply (wp_assume (defs := defs₀ (F := F)) 𝒱₀ (c : Thread nD τ) none Set.univ hc2)
  iapply (wp_cnt c hoff7 _ (cntF (dst w c) t.val)) $$ Hc
  iintro Hc
  iapply (wp_setCnt c hoff7 _ _ (cntF (dst w c) t.val)) $$ Hc
  rw [show setF (cntF (dst w c) t.val) (dst w c r) (Scalar.addi (cntF (dst w c) t.val (ix4 (dst w c r))) 1#32) = cntF (dst w c) (t.val + 1) from by
    rw [hr]; exact cntF_succ (dst w c) r]
  iintro Hc
  by_cases hst : dst w c r = c
  · have e1 : goSet w c (t.val + 1) = goSet w c t.val := by rw [hr]; exact (goSet_stay w c r hst).symm
    have e2 : Orow w c (t.val + 1) = Orow w c t.val := by rw [hr]; exact (Orow_stay w c r hst).symm
    have e3 : gone w c (t.val + 1) = gone w c t.val := by unfold gone; rw [e1]
    rw [dif_neg (fun e => (cond1_iff c hlt).mp e hst), wp_pure, e1, e2, e3]
    imodintro
    isplitr; · iexact HI
    isplitr; · iexact Hs
    isplitr; · iexact Hq
    isplitl [Hd]; · iexact Hd
    isplitl [Hb]; · iexact Hb
    isplitl [Hc]; · iexact Hc
    isplitl [Hgo]; · iexact Hgo
    isplitl [Hcr]; · iexact Hcr
    iexists W; iexact HO
  · have e1 : bigSep (goSet w c t.val) (goRow x w c) = iprop(goRow x w c r ∗ bigSep (goSet w c (t.val + 1)) (goRow x w c)) := by
      rw [hr]; exact bigSep_goSet_step w c r hst _
    have e2 : Orow w c t.val = Orow w c (t.val + 1) + tallyAt (rsemCell (dst w c r)) () Nrow := by rw [hr]; exact Orow_step w c r hst
    have e3 : gone w c (t.val + 1) * Nrow = gone w c t.val * Nrow + Nrow := by rw [hr, gone_step w c r hst, Nat.succ_mul]
    ihave Hgo' := (Entails.of_eq e1) $$ Hgo
    icases Hgo' with ⟨Hr, Hgo⟩
    rw [dif_pos ((cond1_iff c hlt).mpr hst), e2, e3, cred_units]
    have hq : dst w c r = ⟨k0_dev7 (w c (vecIx r)), hc1.2 ((cond1_iff c hlt).mpr hst)⟩ := Fin.ext (dev7_of hlt).symm
    iapply (send_row x hw K c r (q := ⟨k0_dev7 (w c (vecIx r)), hc1.2 ((cond1_iff c hlt).mpr hst)⟩) hq (fun e => hst (hq.trans e))
      ((k0_off9_eq t).trans (by rw [hr])) hoff8 _ _ (Orow w c (t.val + 1)) (W := W)) $$ [Hr HO]
    · isplitr; · iexact HI
      isplitl [Hr]; · iexact Hr
      isplitl [HO]; · rw [← hq]; iexact HO
      isplitr; · iexact Hs
      rw [← hq]
      iapply (show (bigSep (univ.erase c) fun q => (reached ER (rsemCell q) 0 : sProp 𝕄)) ⊢ reached ER (rsemCell (dst w c r)) 0
        from bigSep_elim (Finset.mem_erase.mpr ⟨hst, Finset.mem_univ _⟩))
      iexact Hq
    iintro ⟨Hcr', HO⟩
    rw [wp_pure]
    imodintro
    isplitr; · iexact HI
    isplitr; · iexact Hs
    isplitr; · iexact Hq
    isplitl [Hd]; · iexact Hd
    isplitl [Hb]; · iexact Hb
    isplitl [Hc]; · iexact Hc
    isplitl [Hgo]; · iexact Hgo
    isplitl [Hcr Hcr']; · isplitl [Hcr] <;> iassumption
    iexists W; iexact HO

end Cert.KernelIdeal.Own
-- ==== Proof.Stays.lean ====
/-
  The loop that copies the rows that stay: trip `t` loads row `t` if it stays and stores it in the row of the
  device's own result where it lands.  The loop carries how many rows have stayed so far.
-/
module

public import proofs.«01_k».proof.Proof.Sends

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Finset (univ filter)

variable {F : FTy → Type} [FloatOps F]

local notation "𝕄" => MT nD τ sig Unit (Elt F) ℕ UU ℕ

variable (x : Dev nD → S2048x1024.Idx → Elt F .f32) (w : Dev nD → S2048.Idx → BitVec 32)

/-- The rows that stay, from `t` on, -/
def stayGo (c : Dev nD) (t : ℕ) : Finset (Fin 2048) := univ.filter fun r => t ≤ r.val ∧ dst w c r = c
/-- and before `t`. -/
def stayDone (c : Dev nD) (t : ℕ) : Finset (Fin 2048) := univ.filter fun r => r.val < t ∧ dst w c r = c

/-- A row and the place where it lands, to be written; -/
def stayRow (c : Dev nD) (r : Fin 2048) : sProp 𝕄 :=
  iprop((xLoc c ↦[rowSet r]{fullShare} (x c : Buf (Elt F) (xLoc c))) ∗ outAny c (landF (dst w) c r))
/-- written. -/
def stayed (c : Dev nD) (r : Fin 2048) : sProp 𝕄 :=
  iprop((xLoc c ↦[rowSet r]{fullShare} (x c : Buf (Elt F) (xLoc c))) ∗ rsemPay x w c (c, r))

theorem stayGo_step (c : Dev nD) (r : Fin 2048) (h : dst w c r = c) (Φ : Fin 2048 → sProp 𝕄) :
    bigSep (stayGo w c r.val) Φ = iprop(Φ r ∗ bigSep (stayGo w c (r.val + 1)) Φ) := by
  have e : stayGo w c r.val = insert r (stayGo w c (r.val + 1)) := by
    ext s
    simp only [stayGo, Finset.mem_insert, Finset.mem_filter, Finset.mem_univ, _root_.true_and]
    constructor
    · rintro ⟨h1, h2⟩
      by_cases hs : s = r
      · exact Or.inl hs
      · exact Or.inr ⟨by have : s.val ≠ r.val := fun e => hs (Fin.ext e); omega, h2⟩
    · rintro (rfl | ⟨h1, h2⟩)
      · exact ⟨le_rfl, h⟩
      · exact ⟨by omega, h2⟩
  rw [e, bigSep_insert (by simp only [stayGo, Finset.mem_filter, Finset.mem_univ, _root_.true_and]; omega)]
  rfl

theorem stayDone_step (c : Dev nD) (r : Fin 2048) (h : dst w c r = c) (Φ : Fin 2048 → sProp 𝕄) :
    bigSep (stayDone w c (r.val + 1)) Φ = iprop(Φ r ∗ bigSep (stayDone w c r.val) Φ) := by
  have e : stayDone w c (r.val + 1) = insert r (stayDone w c r.val) := by
    ext s
    simp only [stayDone, Finset.mem_insert, Finset.mem_filter, Finset.mem_univ, _root_.true_and]
    constructor
    · rintro ⟨h1, h2⟩
      by_cases hs : s = r
      · exact Or.inl hs
      · exact Or.inr ⟨by have : s.val ≠ r.val := fun e => hs (Fin.ext e); omega, h2⟩
    · rintro (rfl | ⟨h1, h2⟩)
      · exact ⟨by omega, h⟩
      · exact ⟨by omega, h2⟩
  rw [e, bigSep_insert (by simp only [stayDone, Finset.mem_filter, Finset.mem_univ, _root_.true_and]; omega)]
  rfl

theorem stay_skip (c : Dev nD) (r : Fin 2048) (h : dst w c r ≠ c) :
    stayGo w c (r.val + 1) = stayGo w c r.val ∧ stayDone w c (r.val + 1) = stayDone w c r.val := by
  have hne : ∀ s : Fin 2048, dst w c s = c → s.val ≠ r.val := fun s hs e => h (by rw [← Fin.ext e]; exact hs)
  constructor
  · ext s
    simp only [stayGo, Finset.mem_filter, Finset.mem_univ, _root_.true_and]
    exact ⟨fun ⟨h1, h2⟩ => ⟨by omega, h2⟩, fun ⟨h1, h2⟩ => ⟨by have := hne s h2; omega, h2⟩⟩
  · ext s
    simp only [stayDone, Finset.mem_filter, Finset.mem_univ, _root_.true_and]
    exact ⟨fun ⟨h1, h2⟩ => ⟨by have := hne s h2; omega, h2⟩, fun ⟨h1, h2⟩ => ⟨by omega, h2⟩⟩

theorem stayGo_zero (c : Dev nD) : stayGo w c 0 = sendSet w c c := by
  ext s; simp only [stayGo, sendSet, Finset.mem_filter, Finset.mem_univ, _root_.true_and, Nat.zero_le]
theorem stayDone_zero (c : Dev nD) : stayDone w c 0 = ∅ := by
  ext s; simp only [stayDone, Finset.mem_filter, Finset.mem_univ, _root_.true_and, Nat.not_lt_zero, _root_.false_and, Finset.notMem_empty]
theorem stayDone_end (c : Dev nD) : stayDone w c 2048 = sendSet w c c := by
  ext s; have := s.isLt; simp only [stayDone, sendSet, Finset.mem_filter, Finset.mem_univ, _root_.true_and]
  exact ⟨fun h => h.2, fun h => ⟨this, h⟩⟩
theorem stayGo_end (c : Dev nD) : stayGo w c 2048 = ∅ := by
  ext s; have := s.isLt
  simp only [stayGo, Finset.mem_filter, Finset.mem_univ, _root_.true_and, Finset.notMem_empty, iff_false]; omega

variable {w} in
/-- The load of a row that stays and its store where it lands. -/
theorem stay_row (hw : ∀ z, Good (w z)) (c : Dev nD) (r : Fin 2048) (hq : dst w c r = c)
    {off off' : Fin 2 → ℕ} (h : off = ![r.val, 0]) (h' : off' = ![(landF (dst w) c r).val, 0]) (inb inb') (fd : Buf (Elt F) (outLoc c)) :
    ∀ i ∈ rowSet (landF (dst w) c r),
      (outM.access (Rect.unit (s := S2048x1024) off' S1x1024.size inb')).write (Elt F) fd
        (k0_pay3 ((xM.access (Rect.unit (s := S2048x1024) off S1x1024.size inb)).read (Elt F) (x c))) univ i = outF x w c i := by
  intro i hi
  have e : k0_pay3 ((xM.access (Rect.unit (s := S2048x1024) off S1x1024.size inb)).read (Elt F) (x c))
      = (xM.access (Rect.unit (s := S2048x1024) off S1x1024.size inb)).read (Elt F) (x c) :=
    funext fun i => congrArg ((xM.access (Rect.unit (s := S2048x1024) off S1x1024.size inb)).read (Elt F) (x c)) (Shape.reshapeEquiv_self _ i)
  rw [e, outF_land x hw c r hq i hi]
  exact write_outRow h' h inb' inb fd (x c) i hi

/-! ## The loop -/

/-- What the copying loop holds before trip `t`. -/
def stayInv (c : Dev nD) (t : ℕ) (a : BitVec 32) : sProp 𝕄 :=
  iprop(⌜a = BitVec.ofNat 32 (before (dst w c) c t)⌝
    ∗ (destLoc c ↦[univ]{fullShare} (w c : Buf (Elt F) (destLoc c)))
    ∗ (baseLoc c ↦[univ]{fullShare} (baseF c : Buf (Elt F) (baseLoc c)))
    ∗ bigSep (stayGo w c t) (stayRow x w c) ∗ bigSep (stayDone w c t) (stayed x w c))

/-- The count carried on. -/
theorem carry_word (c : Dev nD) {v : BitVec 32} (hv : v.toNat < 4) (a : ℕ) :
    Scalar.addi (BitVec.ofNat 32 a) (Scalar.select (Scalar.cmpi .eq v (BitVec.ofNat 32 c.val)) 1#32 0#32)
      = BitVec.ofNat 32 (a + if toDev v = c then 1 else 0) := by
  have e : Scalar.select (Scalar.cmpi .eq v (BitVec.ofNat 32 c.val)) 1#32 0#32 = BitVec.ofNat 32 (if toDev v = c then 1 else 0) := by
    rw [← toDev_word hv]
    generalize toDev v = k
    have : toDev (BitVec.ofNat 32 k.val) = k := by revert k; decide
    rw [this]
    revert c k; decide
  rw [e]
  exact (BitVec.ofNat_add _ _).symm

variable {w} in
theorem stay_trip (hw : ∀ z, Good (w z)) (c : Dev nD) (t : Fin k0_t2_loop.trips) (a : BitVec 32) :
    stayInv x w c t.val a
      ⊢ wp frame (wpE (defs₀ (F := F)) 𝒱₀ (c : Thread nD τ) none) Set.univ
          (k0_t2_body (F := F) xM (Memref.isWhole_whole _) destM (Memref.isWhole_whole _) cntsM (Memref.isWhole_whole _) outM (Memref.isWhole_whole _)
            cgM (Memref.isWhole_whole _) csmM (Memref.isWhole_whole _) baseM (Memref.isWhole_whole _) cntM (Memref.isWhole_whole _)
            sem8 sem9 sem10 sem11 sem12 c (BitVec.ofNat 32 c.val) t a)
          (stayInv x w c (t.val + 1)) := by
  have ht : t.val < 2048 := lt_of_lt_of_le t.isLt k0_t2_abs.2.1
  obtain ⟨r, hr⟩ : ∃ r : Fin 2048, t.val = r.val := ⟨⟨t.val, ht⟩, rfl⟩
  have hE : ∀ z, Even (dst w z) := fun z => (hw z).even
  have hlt : (w c (vecIx r)).toNat < 4 := (hw c).lt r
  have hsucc : before (dst w c) c (t.val + 1) = before (dst w c) c t.val + if dst w c r = c then 1 else 0 := by
    rw [hr]; exact before_succ (dst w c) c r
  unfold stayInv
  iintro ⟨%ha, Hd, Hb, Hgo, Hdone⟩
  subst ha
  unfold k0_t2_body smemLoad
  simp only [smemLoadElt_bind, Prog.lift, Prog.bind_op, Prog.bind_ret]
  iapply (wp_dest c (r := r) ((k0_off10_eq t).trans (by rw [hr])) _ (w c)) $$ Hd
  iintro Hd
  by_cases hst : dst w c r = c
  · have hrank : before (dst w c) c t.val = rank (dst w c) r := by unfold rank; rw [hst, hr]
    have hland : 512 * c.val + before (dst w c) c t.val = (landF (dst w) c r).val := by rw [landF_val hE, hrank]; rfl
    have hoff : k0_off13 (BitVec.ofNat 32 (before (dst w c) c t.val)) (baseF c (ix4 c)) = ![(landF (dst w) c r).val, 0] :=
      off13_of hland (landF (dst w) c r).isLt
    have hc3 : k0_chk3 c (BitVec.ofNat 32 (before (dst w c) c t.val)) (w c (vecIx r)) (baseF c (ix4 c)) := by
      intro _
      rw [hoff]
      intro a
      fin_cases a
      · exact (landF (dst w) c r).isLt
      · exact le_rfl
    have hin := hc3 ((cond2_iff c hlt).mpr hst)
    have hSo : (outRow _ hin).view.set ⊆ rowSet (landF (dst w) c r) := by rw [set_outRow hoff hin]
    have hSx : (xRow _ (k0_off11_inb t)).view.set ⊆ rowSet r := by rw [set_xRow ((k0_off11_eq t).trans (by rw [hr])) (k0_off11_inb t)]
    have e1 : bigSep (stayGo w c t.val) (stayRow x w c) = iprop(stayRow x w c r ∗ bigSep (stayGo w c (t.val + 1)) (stayRow x w c)) := by
      rw [hr]; exact stayGo_step w c r hst _
    have e2 : bigSep (stayDone w c (t.val + 1)) (stayed x w c) = iprop(stayed x w c r ∗ bigSep (stayDone w c t.val) (stayed x w c)) := by
      rw [hr]; exact stayDone_step w c r hst _
    ihave Hgo' := (Entails.of_eq e1) $$ Hgo
    unfold stayRow outAny
    icases Hgo' with ⟨⟨Hx, ⟨%fd, Ho⟩⟩, Hgo⟩
    rw [dif_pos ((cond2_iff c hlt).mpr hst)]
    iapply (wp_load_rect (defs := defs₀ (F := F)) (Γ := .empty) 𝒱₀ (c : Thread nD τ) none Set.univ (m := xM)
      (r := Rect.unit (s := S2048x1024) (k0_off11 t) S1x1024.size (k0_off11_inb t)) (S := rowSet r) (q := fullShare) (f := (x c : Buf (Elt F) (xLoc c)))
      hSx) $$ Hx
    iintro Hx
    simp only [smemLoadElt_bind, Prog.bind_op, Prog.bind_ret]
    iapply (wp_base c (k0_off12_eq c) _ (baseF c)) $$ Hb
    iintro Hb
    iapply (wp_assume (defs := defs₀ (F := F)) 𝒱₀ (c : Thread nD τ) none Set.univ hc3)
    iapply (wp_load_rect (defs := defs₀ (F := F)) (Γ := .empty) 𝒱₀ (c : Thread nD τ) none Set.univ (m := outM)
      (r := Rect.unit (s := S2048x1024) (k0_off13 (BitVec.ofNat 32 (before (dst w c) c t.val)) (baseF c (ix4 c))) S1x1024.size hin) (S := rowSet (landF (dst w) c r)) (q := fullShare) (f := fd)
      hSo) $$ Ho
    iintro Ho
    iapply (wp_store (defs := defs₀ (F := F)) (Γ := .empty) 𝒱₀ (c : Thread nD τ) none Set.univ (m := outM)
      (r := Rect.unit (s := S2048x1024) (k0_off13 (BitVec.ofNat 32 (before (dst w c) c t.val)) (baseF c (ix4 c))) S1x1024.size hin) (S := rowSet (landF (dst w) c r)) (f := fd)
      hSo) $$ Ho
    iintro Ho
    rw [wp_pure, e2]
    imodintro
    isplitr; · ipureintro; rw [hsucc]; exact carry_word c hlt _
    isplitl [Hd]; · iexact Hd
    isplitl [Hb]; · iexact Hb
    isplitl [Hgo]; · iexact Hgo
    isplitr [Hdone]
    · unfold stayed rsemPay
      isplitl [Hx]; · iexact Hx
      iapply (show (outLoc c ↦[rowSet (landF (dst w) c r)]{fullShare} _ : sProp 𝕄) ⊢ _ from Entails.of_eq
        (pointsTo_congr (stay_row x hw c r hst ((k0_off11_eq t).trans (by rw [hr])) hoff (k0_off11_inb t) (hc3 ((cond2_iff c hlt).mpr hst)) fd)))
      iexact Ho
    · iexact Hdone
  · obtain ⟨e1, e2⟩ : stayGo w c (t.val + 1) = stayGo w c t.val ∧ stayDone w c (t.val + 1) = stayDone w c t.val := by
      rw [hr]; exact stay_skip w c r hst
    rw [dif_neg (fun e => hst ((cond2_iff c hlt).mp e)), e1, e2]
    simp only [Prog.bind_ret, pure_bind, wp_pure]
    imodintro
    isplitr; · ipureintro; rw [hsucc]; exact carry_word c hlt _
    isplitl [Hd]; · iexact Hd
    isplitl [Hb]; · iexact Hb
    isplitl [Hgo]; · iexact Hgo
    iexact Hdone

end Cert.KernelIdeal.Own
-- ==== Proof.Counts.lean ====
/-
  The steps that exchange the counts: the barrier's signals and its wait, the store of a device's own
  counts into its slot, the three transfers of that slot, the waits for them, the local copy into
  scalar memory, and the loads from there.
-/
module

public import proofs.«01_k».proof.Proof.Stays
public import Idealize.ShloMosaic.Lib.Pipeline.Value

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Finset (univ filter)

variable {F : FTy → Type} [FloatOps F]

local notation "𝕄" => MT nD τ sig Unit (Elt F) ℕ UU ℕ

variable (x : Dev nD → S2048x1024.Idx → Elt F .f32) (w : Dev nD → S2048.Idx → BitVec 32)

/-! ## The peers and their cells, as the kernel computes them -/

theorem dev1_eq (c : Dev nD) : (⟨k0_dev1 c, k0_dev1_lt c⟩ : Dev nD) = c + 1 := by revert c; decide
theorem dev2_eq (c : Dev nD) : (⟨k0_dev2 c, k0_dev2_lt c⟩ : Dev nD) = c + 2 := by revert c; decide
theorem dev3_eq (c : Dev nD) : (⟨k0_dev3 c, k0_dev3_lt c⟩ : Dev nD) = c + 3 := by revert c; decide
theorem dev4_eq (c : Dev nD) : (⟨k0_dev4 c, k0_dev4_lt c⟩ : Dev nD) = c + 1 := by revert c; decide
theorem dev5_eq (c : Dev nD) : (⟨k0_dev5 c, k0_dev5_lt c⟩ : Dev nD) = c + 2 := by revert c; decide
theorem dev6_eq (c : Dev nD) : (⟨k0_dev6 c, k0_dev6_lt c⟩ : Dev nD) = c + 3 := by revert c; decide

theorem off5_1 (c : Dev nD) : k0_off5 c 1#32 = ![(c + 3).val] := by revert c; decide
theorem off5_2 (c : Dev nD) : k0_off5 c 2#32 = ![(c + 2).val] := by revert c; decide
theorem off5_3 (c : Dev nD) : k0_off5 c 3#32 = ![(c + 1).val] := by revert c; decide

/-- The landing semaphore at an offset. -/
theorem crecv_sem {off : Fin 1 → ℕ} {s : Dev nD} (h : off = ![s.val]) (inb) :
    (SemLoc.dma ((sem9.slice (Rect.unit (s := S4) off S1.size inb)).squeeze S_ squeezes_S1_S_).sem : SemLoc sig) = crecvS s := by
  subst h
  revert s
  decide

/-- The read-out semaphores. -/
theorem csend_sem0 : (SemLoc.dma ((sem8.slice (Rect.unit (s := S3) ![0] S1.size inb_S3_S1_0)).squeeze S_ squeezes_S1_S_).sem : SemLoc sig) = csendS 0 := by decide
theorem csend_sem1 : (SemLoc.dma ((sem8.slice (Rect.unit (s := S3) ![1] S1.size inb_S3_S1_1)).squeeze S_ squeezes_S1_S_).sem : SemLoc sig) = csendS 1 := by decide
theorem csend_sem2 : (SemLoc.dma ((sem8.slice (Rect.unit (s := S3) ![2] S1.size inb_S3_S1_2)).squeeze S_ squeezes_S1_S_).sem : SemLoc sig) = csendS 2 := by decide

/-! ## The barrier -/

theorem bar_not_mem1 (c : Dev nD) : ((c + 1, 0) : Duty) ∉ ({(c + 2, 0), (c + 3, 0)} : Finset Duty) := by
  intro h
  rcases Finset.mem_insert.mp h with h | h
  · exact add12 c (congrArg Prod.fst h)
  · exact add13 c (congrArg Prod.fst (Finset.mem_singleton.mp h))
theorem bar_not_mem2 (c : Dev nD) : ((c + 2, 0) : Duty) ∉ ({(c + 3, 0)} : Finset Duty) := by
  intro h
  exact add23 c (congrArg Prod.fst (Finset.mem_singleton.mp h))

theorem add1_3 (c : Dev nD) : c + 1 + 3 = c := by revert c; decide
theorem add2_2 (c : Dev nD) : c + 2 + 2 = c := by revert c; decide
theorem add3_1 (c : Dev nD) : c + 3 + 1 = c := by revert c; decide

/-- A device's signal is a duty of each of its peers' barrier cells. -/
theorem bar_mem1 (c : Dev nD) : ((c, 0) : Duty) ∈ (Rd x w).duties (barCell (c + 1)) 0 := by
  rw [dut_bar, add1_3]
  exact Finset.mem_insert_of_mem (Finset.mem_insert_of_mem (Finset.mem_singleton_self _))
theorem bar_mem2 (c : Dev nD) : ((c, 0) : Duty) ∈ (Rd x w).duties (barCell (c + 2)) 0 := by
  rw [dut_bar, add2_2]
  exact Finset.mem_insert_of_mem (Finset.mem_insert_self _ _)
theorem bar_mem3 (c : Dev nD) : ((c, 0) : Duty) ∈ (Rd x w).duties (barCell (c + 3)) 0 := by
  rw [dut_bar, add3_1]
  exact Finset.mem_insert_self _ _

/-- A signal to a peer: hands it the own slot for its counts, the rows of the own result it fills,
    and that the own landing cells are open. -/
theorem signal_bar (K : GSem nD τ sig → ℕ) (c : Dev nD) {q p : Dev nD} (hp : p = q) (hd : ((c, 0) : Duty) ∈ (Rd x w).duties (barCell q) 0)
    (O : CellTallies nD τ sig Unit) {W : Waits sig Unit} {α : Type} {Q : α → sProp 𝕄}
    {k : PUnit → Prog (TpuEff nD τ sig (Elt F) Λ₀ (c : Thread nD τ).2) α} :
    iprop(recs x w K ∗ owes (c : Thread nD τ) (O + tallyAt (barCell q) () 1) W ∗ dutyTok ER (barCell q) 0 (c, 0) ∗ barPay w q c)
      ⊢ iprop((owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (p, .tc) barS 1) k) Q) := by
  subst hp
  iintro ⟨#HI, HO, Ht, Hp⟩ Hk
  iapply (Rounds.wp_signal (defs := defs₀ (F := F)) 𝒱₀ ER (Rd x w) (c : Thread nD τ) none (dst := (p : Thread nD τ)) (sem := barS) (r := 0) (d := (c, 0)) (κ := K (barCell p))
    hd rfl () O rfl) $$ [HO Ht Hp]
  · isplitr; · iapply (inv_bar x w K p); iexact HI
    isplitl [HO]; · iexact HO
    isplitl [Ht]; · iexact Ht
    isplitl [Hp]; · rw [pay_bar]; iexact Hp
    iapply (reached_bar x w K p); iexact HI
  iexact Hk

/-- The wait for the three peers' signals: their slots, result rows and open cells come in. -/
theorem wait_bar (K : GSem nD τ sig → ℕ) (c : Dev nD) {W : Waits sig Unit} {α : Type} {Q : α → sProp 𝕄}
    {k : PUnit → Prog (TpuEff nD τ sig (Elt F) Λ₀ (c : Thread nD τ).2) α} :
    iprop(recs x w K ∗ levAts L lv ∗ cred (tallyAt (barCell c) () 3) ∗ owes (c : Thread nD τ) (Ocg1 w c) W ∗ atPos ER (barCell c) 0 ∅ 0)
      ⊢ iprop((((∃ W, owes (c : Thread nD τ) (Ocg1 w c) W) ∗ atPos ER (barCell c) 1 ∅ 0 ∗ barPay w c (c + 1) ∗ barPay w c (c + 2) ∗ barPay w c (c + 3))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 3) k) Q) := by
  have e : (bigSep ((Rd x w).duties (barCell c) 0 \ ∅) fun e => (Rd x w).payload (barCell c) 0 e)
      = iprop(barPay w c (c + 1) ∗ barPay w c (c + 2) ∗ barPay w c (c + 3) : sProp 𝕄) := by
    rw [Finset.sdiff_empty, dut_bar, bigSep_insert (bar_not_mem1 c), bigSep_insert (bar_not_mem2 c), bigSep_singleton]
    rfl
  iintro ⟨#HI, #Hl, Hc, HO, Hat⟩ Hk
  iapply (Rounds.wp_wait_rest_token (defs := defs₀ (F := F)) 𝒱₀ ER (Rd x w) (c : Thread nD τ) none (κ := K (barCell c))
    (wpE_semWait_eq 𝒱₀ (c : Thread nD τ) none Set.univ) (Set.mem_univ _) () (O := Ocg1 w c) (W := W) (R := 0) (m := 0) (T := ∅)
    ((Nat.zero_add 3).trans (exp_bar x w c).symm)) $$ [Hc HO Hat]
  · isplitr; · iapply (inv_bar x w K c); iexact HI
    isplitl [Hc]; · iexact Hc
    isplitl [HO]; · iexact HO
    isplitr; · iapply (mayWait_of_above c (.reg barS) (n := 1) (le_of_eq (lv_bar c)) (above_Ocg1 w c)); iexact Hl
    iexact Hat
  iintro ⟨HO, Hat, -, Hp⟩
  ihave Hp := (Entails.of_eq e) $$ Hp
  icases Hp with ⟨H1, H2, H3⟩
  iapply Hk
  isplitl [HO]; · iexists _; iexact HO
  isplitl [Hat]; · iexact Hat
  isplitl [H1]; · iexact H1
  isplitl [H2] <;> iassumption

/-! ## The own counts into the own slot -/

theorem counts_word (a : Fin 8) (b : Fin 128) :
    Scalar.select (Scalar.andi (Scalar.cmpi .eq (BitVec.ofNat 32 (0 * 8 + a.val)) 0#32) (Scalar.cmpi .eq (BitVec.ofNat 32 (0 * 128 + b.val)) 3#32)) 512#32
      (Scalar.select (Scalar.andi (Scalar.cmpi .eq (BitVec.ofNat 32 (0 * 8 + a.val)) 0#32) (Scalar.cmpi .eq (BitVec.ofNat 32 (0 * 128 + b.val)) 2#32)) 512#32
        (Scalar.select (Scalar.andi (Scalar.cmpi .eq (BitVec.ofNat 32 (0 * 8 + a.val)) 0#32) (Scalar.cmpi .eq (BitVec.ofNat 32 (0 * 128 + b.val)) 1#32)) 512#32
          (Scalar.select (Scalar.andi (Scalar.cmpi .eq (BitVec.ofNat 32 (0 * 8 + a.val)) 0#32) (Scalar.cmpi .eq (BitVec.ofNat 32 (0 * 128 + b.val)) 0#32)) 512#32 0#32)))
      = if a.val = 0 ∧ b.val < 4 then 512#32 else 0#32 := by
  revert a b
  decide +kernel

/-- The vector the kernel stores, entry by entry. -/
theorem counts_val (y : S1x8x128.Idx) :
    k0_pay2 (F := F) (iota .tc S8x128 32 [0] iota_S8x128_d0_w32) (iota .tc S8x128 32 [1] iota_S8x128_d1_w32) (k0_pay1 (F := F) (512#32) (512#32) (512#32)) 0#32 (512#32) y
      = if (y 1).val = 0 ∧ (y 2).val < 4 then 512#32 else 0#32 := by
  refine Eq.trans ?_ (counts_word (y 1) (y 2))
  unfold k0_pay2
  refine (shapeCast_addUnit_apply ![8, 128] _ _ y).trans ?_
  rfl

abbrev slotRect (off : Fin 3 → ℕ) (inb : ∀ a, off a + S1x8x128.size a ≤ S4x8x128.size a) : Rect S4x8x128 :=
  Rect.unit (s := S4x8x128) off S1x8x128.size inb

theorem set_cgAccess {off : Fin 3 → ℕ} {s : Dev nD} (h : off = ![s.val, 0, 0]) (inb) : (cgM.access (slotRect off inb)).set = slotSet s :=
  (View.set_slice_whole cc0_scratch0 _).trans (set_slotRect h inb)

/-- The slot loaded before it is overwritten, -/
theorem load_slot (c : Dev nD) {α : Type} {Q : α → sProp 𝕄} {off : Fin 3 → ℕ} (h : off = ![c.val, 0, 0]) (inb) {hl}
    {k : Vec F S1x8x128 .i32 → Prog (TpuEff nD τ sig (Elt F) Λ₀ (c : Thread nD τ).2) α} :
    slotAny (F := F) c c
      ⊢ iprop((∀ v, slotAny c c -∗ wp frame (wpE (defs₀ (F := F)) 𝒱₀ (c : Thread nD τ) none) Set.univ (k v) Q)
        -∗ wp frame (wpE (defs₀ (F := F)) 𝒱₀ (c : Thread nD τ) none) Set.univ (.op (.load cgM (slotRect off inb).toLoadRect hl) k) Q) := by
  unfold slotAny
  iintro ⟨%f, H⟩ Hk
  iapply (wp_load_rect (defs := defs₀ (F := F)) (Γ := .empty) 𝒱₀ (c : Thread nD τ) none Set.univ (m := cgM) (r := slotRect off inb)
    (S := slotSet c) (q := fullShare) (f := f) (le_of_eq (set_cgAccess h inb))) $$ H
  iintro H
  iapply Hk $$ %_ [H]
  iexists f
  iexact H

/-- and overwritten with the own counts. -/
theorem store_slot (c : Dev nD) {α : Type} {Q : α → sProp 𝕄} {off : Fin 3 → ℕ} (h : off = ![c.val, 0, 0]) (inb) {hx} {hm}
    {k : PUnit → Prog (TpuEff nD τ sig (Elt F) Λ₀ (c : Thread nD τ).2) α} :
    slotAny (F := F) c c
      ⊢ iprop((crecvPay (F := F) c c -∗ wp frame (wpE (defs₀ (F := F)) 𝒱₀ (c : Thread nD τ) none) Set.univ (k ⟨⟩) Q)
        -∗ wp frame (wpE (defs₀ (F := F)) 𝒱₀ (c : Thread nD τ) none) Set.univ
          (.op (.store cgM (slotRect off inb) (k0_pay2 (F := F) (iota .tc S8x128 32 [0] iota_S8x128_d0_w32) (iota .tc S8x128 32 [1] iota_S8x128_d1_w32)
            (k0_pay1 (F := F) (512#32) (512#32) (512#32)) 0#32 (512#32)) univ hx hm) k) Q) := by
  unfold slotAny crecvPay
  iintro ⟨%f, H⟩ Hk
  iapply (wp_store (defs := defs₀ (F := F)) (Γ := .empty) 𝒱₀ (c : Thread nD τ) none Set.univ (m := cgM) (r := slotRect off inb)
    (S := slotSet c) (f := f) (le_of_eq (set_cgAccess h inb))) $$ H
  iintro H
  iapply Hk
  have e : ∀ i ∈ slotSet c, (cgM.access (slotRect off inb)).write (Elt F) f (k0_pay2 (F := F) (iota .tc S8x128 32 [0] iota_S8x128_d0_w32) (iota .tc S8x128 32 [1] iota_S8x128_d1_w32)
            (k0_pay1 (F := F) (512#32) (512#32) (512#32)) 0#32 (512#32)) univ i = (cgAll : Buf (Elt F) (cgLoc c)) i := by
    intro i hi
    rw [← set_cgAccess h inb] at hi
    obtain ⟨y, -, rfl⟩ := Finset.mem_map.mp hi
    rw [View.write_emb_of_mem _ _ (Finset.mem_univ _), counts_val]
    subst h
    have h1 : ((cgM.access (slotRect _ inb)).emb y 1).val = (y 1).val := by show 0 + 1 * (y 1).val = _; omega
    have h2 : ((cgM.access (slotRect _ inb)).emb y 2).val = (y 2).val := by show 0 + 1 * (y 2).val = _; omega
    show _ = if _ ∧ _ then _ else _
    rw [h1, h2]
    rfl
  iapply (Entails.of_eq (pointsTo_congr e))
  iexact H

/-! ## The transfers of the slot and the waits -/

/-- A transfer of the own slot to a peer. -/
theorem send_counts (K : GSem nD τ sig → ℕ) (c : Dev nD) (i : Fin 3) {q p : Dev nD} (hp : p = q) (hq : c ≠ q)
    {off off' : Fin 3 → ℕ} (h : off = ![c.val, 0, 0]) (h' : off' = ![c.val, 0, 0]) (inb inb') {sS sR : SemLoc sig} (hS : sS = csendS i) (hR : sR = crecvS c)
    (O : CellTallies nD τ sig Unit) {W : Waits sig Unit} {hsc} {hsrc} {hdst} {hsem} {α : Type} {Q : α → sProp 𝕄}
    {k : PUnit → Prog (TpuEff nD τ sig (Elt F) Λ₀ (c : Thread nD τ).2) α} :
    iprop(recs x w K ∗ csendPay (F := F) c i ∗ slotAny (F := F) q c ∗ owes (c : Thread nD τ) (O + tallyAt (crecvCell q c) () Ncg) W
        ∗ dutyTok ER (csendCell c i) 0 (c, 0) ∗ reached ER (csendCell c i) 0 ∗ dutyTok ER (crecvCell q c) 0 (c, 0) ∗ reached ER (crecvCell q c) 0)
      ⊢ iprop(((cred (tallyAt (csendCell c i) () Ncg) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (cgSlot off inb) (.remote (Dev.tc p) (cgSlot off' inb') sS hsc) sR hsrc hdst hsem) k) Q) := by
  subst hp hS hR
  unfold csendPay slotAny
  iintro ⟨#HI, Hx, ⟨%fd, Ho⟩, HO, Ht, #Hr, Ht', #Hr'⟩ Hk
  have hd₁ : ((c, 0) : Duty) ∈ (Rd x w).duties (csendCell c i) 0 := by
    rw [dut_csend]; exact Finset.mem_singleton_self _
  have hd₂ : ((c, 0) : Duty) ∈ (Rd x w).duties (crecvCell p c) 0 := by
    rw [dut_crecv x w p c hq]; exact Finset.mem_singleton_self _
  iapply (Rounds.wp_send_pointsTo (defs := defs₀ (F := F)) 𝒱₀ ER (Rd x w) (c : Thread nD τ) none (c' := (p : Thread nD τ))
    (src := cgSlot off inb) (dst := cgSlot off' inb') (sS := csendS i) (sem := crecvS c) (q := Ring.shares3 fullShare i)
    (fs := (cgAll : Buf (Elt F) (cgLoc c))) (fd := fd) (r₁ := 0) (r₂ := 0) (d₁ := (c, 0)) (d₂ := (c, 0))
    (κ₁ := K (csendCell c i)) (κ₂ := K (crecvCell p c)) hd₁ hd₂ () () Ncg rfl (amt_csend x w c i _) (amt_crecv x w p c _) O rfl (W := W) ?p1 ?p2) $$ [Hx Ho Ht Ht' HO]
  case p1 =>
    rw [pay_csend, set_cgSlot h inb]
    exact .rfl
  case p2 =>
    rw [pay_crecv, set_cgSlot h' inb']
    unfold crecvPay
    refine Entails.of_eq ?_
    refine pointsTo_congr ?_
    intro i hi
    subst h h'
    exact write_cgSlot rfl inb fd i hi
  · isplitr; · iapply (inv_o x w K c _); iexact HI
    isplitr; · iapply (inv_o x w K p _); iexact HI
    isplitl [Hx]; · rw [set_cgSlot h inb]; iexact Hx
    isplitl [Ho]; · rw [set_cgSlot h' inb']; iexact Ho
    isplitl [HO]; · iexact HO
    isplitl [Ht]; · iexact Ht
    isplitr; · iexact Hr
    isplitl [Ht']; · iexact Ht'
    iexact Hr'
  iintro H
  iapply Hk
  iexact H

/-- A wait that closes the one round of a cell with one duty: what the duty hands over comes in. -/
theorem wait_one (K : GSem nD τ sig → ℕ) (c : Dev nD) (j : Fin 10) {N : ℕ} {e : Duty} (hd : (Rd x w).duties (oCell c j) 0 = {e})
    (hN : (Rd x w).expect (oCell c j) 0 = N) {n : ℕ} {O : CellTallies nD τ sig Unit} (hs : lv (oCell c j) () ≤ n) (hO : Above n O)
    {ef : TpuEff nD τ sig (Elt F) Λ₀ (c : Thread nD τ).2 PUnit}
    (hwe : ∀ K : PUnit → sProp 𝕄, wpE (defs₀ (F := F)) 𝒱₀ (c : Thread nD τ) none Set.univ ef K = waitSpec (c : Thread nD τ) Set.univ (osem j) N K)
    {P : sProp 𝕄} (hP : (Rd x w).payload (oCell c j) 0 e = P)
    {α : Type} {Q : α → sProp 𝕄} {k : PUnit → Prog (TpuEff nD τ sig (Elt F) Λ₀ (c : Thread nD τ).2) α} :
    iprop(recs x w K ∗ levAts L lv ∗ cred (tallyAt (oCell c j) () N) ∗ (∃ W, owes (c : Thread nD τ) O W) ∗ atPos ER (oCell c j) 0 ∅ 0)
      ⊢ iprop((((∃ W, owes (c : Thread nD τ) O W) ∗ atPos ER (oCell c j) 1 ∅ 0 ∗ P)
          -∗ wp frame (wpE (defs₀ (F := F)) 𝒱₀ (c : Thread nD τ) none) Set.univ (k ⟨⟩) Q)
        -∗ wp frame (wpE (defs₀ (F := F)) 𝒱₀ (c : Thread nD τ) none) Set.univ (.op ef k) Q) := by
  have ee : (bigSep ((Rd x w).duties (oCell c j) 0 \ ∅) fun e => (Rd x w).payload (oCell c j) 0 e) = P := by
    rw [Finset.sdiff_empty, hd, bigSep_singleton, hP]
  iintro ⟨#HI, #Hl, Hc, ⟨%W, HO⟩, Hat⟩ Hk
  iapply (Rounds.wp_wait_rest_token (defs := defs₀ (F := F)) 𝒱₀ ER (Rd x w) (c : Thread nD τ) none (κ := K (oCell c j))
    hwe (Set.mem_univ _) () (O := O) (W := W) (R := 0) (m := 0) (T := ∅)
    ((Nat.zero_add N).trans hN.symm)) $$ [Hc HO Hat]
  · isplitr; · iapply (inv_o x w K c j); iexact HI
    isplitl [Hc]; · iexact Hc
    isplitl [HO]; · iexact HO
    isplitr; · iapply (mayWait_of_above c (osem j) (n := n) hs hO); iexact Hl
    iexact Hat
  iintro ⟨HO, Hat, -, Hp⟩
  ihave Hp := (Entails.of_eq ee) $$ Hp
  iapply Hk
  isplitl [HO]; · iexists _; iexact HO
  isplitl [Hat] <;> iassumption

/-! ## The local copy, and loads from it -/

/-- The gathered counts into scalar memory. -/
theorem copy_counts (K : GSem nD τ sig → ℕ) (c : Dev nD) {hsrc} {hdst} {hsem} {α : Type} {Q : α → sProp 𝕄}
    {k : PUnit → Prog (TpuEff nD τ sig (Elt F) Λ₀ (c : Thread nD τ).2) α} (f : Buf (Elt F) (csmLoc c)) :
    iprop(recs x w K ∗ (cgLoc c ↦[univ]{fullShare} (cgAll : Buf (Elt F) (cgLoc c))) ∗ (csmLoc c ↦[univ]{fullShare} f)
        ∗ dutyTok ER (clocCell c) 0 (c, 0) ∗ reached ER (clocCell c) 0)
      ⊢ iprop((cred (tallyAt (clocCell c) () Nloc) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma cgM (.here csmM) (.dma sem10.sem) hsrc hdst hsem) k) Q) := by
  iintro ⟨#HI, Hs, Hd, Ht, #Hr⟩ Hk
  have hd : ((c, 0) : Duty) ∈ (Rd x w).duties (clocCell c) 0 := by
    rw [dut_cloc]; exact Finset.mem_singleton_self _
  have es : (cgM.view).set = univ := View.set_whole _
  have ed : (csmM.view).set = univ := View.set_whole _
  iapply (Rounds.wp_copy_pointsTo (defs := defs₀ (F := F)) 𝒱₀ ER (Rd x w) (c : Thread nD τ) none (src := cgM) (dst := csmM) (sem := .dma sem10.sem) (q := fullShare)
    (fs := (cgAll : Buf (Elt F) (cgLoc c))) (fd := f) (r := 0) (d := (c, 0)) (κ := K (clocCell c)) hd () Nloc rfl rfl ?p) $$ [Hs Hd Ht]
  case p =>
    show _ ⊢ clocPay (F := F) c
    rw [es, ed]
    unfold clocPay
    refine sep_mono_left (Entails.of_eq (pointsTo_congr ?_))
    intro i _
    exact congrFun (View.write_whole_univ (Val := Elt F) cc0_scratch1 _ _) i
  · isplitr; · iapply (inv_o x w K c 7); iexact HI
    isplitl [Hs]; · rw [es]; iexact Hs
    isplitl [Hd]; · rw [ed]; iexact Hd
    isplitl [Ht]; · iexact Ht
    iexact Hr
  iexact Hk

/-- A load of a count from scalar memory. -/
theorem wp_csm (c : Dev nD) {α : Type} {Q : α → sProp 𝕄} {off : Fin 3 → ℕ} (h1 : off 1 = 0) (h2 : off 2 < 4) (inb) {hl} {y}
    {k : Elt F .i32 → Prog (TpuEff nD τ sig (Elt F) Λ₀ (c : Thread nD τ).2) α} :
    (csmLoc c ↦[univ]{fullShare} (cgAll : Buf (Elt F) (csmLoc c)) : sProp 𝕄)
      ⊢ iprop(((csmLoc c ↦[univ]{fullShare} (cgAll : Buf (Elt F) (csmLoc c))) -∗ wp frame (wpE (defs₀ (F := F)) 𝒱₀ (c : Thread nD τ) none) Set.univ (k (512#32)) Q)
        -∗ wp frame (wpE (defs₀ (F := F)) 𝒱₀ (c : Thread nD τ) none) Set.univ
            (smemLoadElt csmM (Rect.unit (s := S4x8x128) off S1x1x1.size inb) hl y k) Q) := by
  have e : (csmM.access (Rect.unit (s := S4x8x128) off S1x1x1.size inb)).read (Elt F) (cgAll : Buf (Elt F) (csmLoc c)) y = (512#32 : BitVec 32) := by
    show (cgAll ((Rect.unit (s := S4x8x128) off S1x1x1.size inb).emb y) : BitVec 32) = _
    refine if_pos ⟨?_, ?_⟩
    · show off 1 + 1 * (y 1).val = 0
      have : (y 1).val < 1 := (y 1).isLt
      omega
    · show off 2 + 1 * (y 2).val < 4
      have : (y 2).val < 1 := (y 2).isLt
      omega
  iintro H Hk
  iapply (wp_smemLoadElt (defs := defs₀ (F := F)) (Γ := .empty) 𝒱₀ (c : Thread nD τ) none Set.univ (m := csmM)
    (r := Rect.unit (s := S4x8x128) off S1x1x1.size inb) (x := y) (S := univ) (q := fullShare) (f := (cgAll : Buf (Elt F) (csmLoc c))) (Finset.subset_univ _)) $$ H
  rw [e]
  iexact Hk

end Cert.KernelIdeal.Own
-- ==== Proof.Parts.lean ====
/-
  The straight-line parts of the kernel's body, one theorem each: the barrier, the own counts into
  the own slot and out to the peers, the peers' counts in, the copy into scalar memory, and the tables
  of first landing rows and of rows counted so far.
-/
module

public import proofs.«01_k».proof.Proof.Counts

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Finset (univ filter)

variable {F : FTy → Type} [FloatOps F]

local notation "𝕄" => MT nD τ sig Unit (Elt F) ℕ UU ℕ

variable (x : Dev nD → S2048x1024.Idx → Elt F .f32) (w : Dev nD → S2048.Idx → BitVec 32)

/-! ## The barrier -/

theorem part1_run (K : GSem nD τ sig → ℕ) (c : Dev nD) {W : Waits sig Unit}
    {Q : (Σ' (d0 : Dev nD) (v2 : BitVec 32) (v3 : Sems sig S_) (v30 : BitVec 32) (c4_i32_18 : BitVec 32), BitVec 1) → sProp 𝕄} :
    iprop(recs x w K ∗ owes (c : Thread nD τ) (Obar1 w c) W ∗ dutyTok ER (barCell (c + 1)) 0 (c, 0) ∗ dutyTok ER (barCell (c + 2)) 0 (c, 0)
        ∗ barPay w (c + 1) c ∗ barPay w (c + 2) c)
      ⊢ iprop((owes (c : Thread nD τ) (Obar3 w c) W -∗ Q ⟨c, BitVec.ofNat 32 c.val, SemArray.scalar (sig.barrier 0 rfl), Scalar.addi (BitVec.ofNat 32 c.val) 3#32, 4#32, Scalar.cmpi .eq 4#32 0#32⟩)
        -∗ wp frame (wpE (defs₀ (F := F)) 𝒱₀ (c : Thread nD τ) none) Set.univ (k0_part1 (F := F) xM (Memref.isWhole_whole _) destM (Memref.isWhole_whole _) cntsM (Memref.isWhole_whole _) outM (Memref.isWhole_whole _)
            cgM (Memref.isWhole_whole _) csmM (Memref.isWhole_whole _) baseM (Memref.isWhole_whole _) cntM (Memref.isWhole_whole _)
            sem8 sem9 sem10 sem11 sem12) Q) := by
  rw [k0_part1_eq_skeleton]
  unfold k0_part1_skel semSignalWord
  simp only [Prog.lift, Prog.bind_op, Prog.bind_ret, wp_deviceId, self_word, (by decide : (1#32 : BitVec 32).toInt = 1)]
  iintro ⟨#HI, HO, Ht1, Ht2, Hp1, Hp2⟩ Hk
  iapply (signal_bar x w K c (dev1_eq c) (bar_mem1 x w c) (Obar2 w c)) $$ [HO Ht1 Hp1]
  · isplitr; · iexact HI
    isplitl [HO]; · iexact HO
    isplitl [Ht1] <;> iassumption
  iintro HO
  iapply (signal_bar x w K c (dev2_eq c) (bar_mem2 x w c) (Obar3 w c)) $$ [HO Ht2 Hp2]
  · isplitr; · iexact HI
    isplitl [HO]; · iexact HO
    isplitl [Ht2] <;> iassumption
  iintro HO
  rw [wp_pure]
  imodintro
  iapply Hk
  iexact HO

/-- The device's own row counts: 512 for every destination. -/
abbrev counts512 : S4.Idx → BitVec 32 := fun _ => 512#32

theorem part2_run (K : GSem nD τ sig → ℕ) (c : Dev nD) {W : Waits sig Unit} (v30 v4 : BitVec 32) (v31 : BitVec 1)
    {Q : (Σ' (v43 : IVec S8x128 32) (v44 : IVec S8x128 32) (v69 : IVec S8x128 32), BitVec 32) → sProp 𝕄} :
    iprop(recs x w K ∗ levAts L lv ∗ owes (c : Thread nD τ) (Obar3 w c) W ∗ dutyTok ER (barCell (c + 3)) 0 (c, 0) ∗ barPay w (c + 3) c
        ∗ cred (tallyAt (barCell c) () 3) ∗ atPos ER (barCell c) 0 ∅ 0 ∗ (cntsLoc c ↦[univ]{fullShare} (counts512 : Buf (Elt F) (cntsLoc c))))
      ⊢ iprop((((∃ W, owes (c : Thread nD τ) (Ocg1 w c) W) ∗ atPos ER (barCell c) 1 ∅ 0 ∗ barPay w c (c + 1) ∗ barPay w c (c + 2) ∗ barPay w c (c + 3)
            ∗ (cntsLoc c ↦[univ]{fullShare} (counts512 : Buf (Elt F) (cntsLoc c))))
          -∗ Q ⟨iota .tc S8x128 32 [0] iota_S8x128_d0_w32, iota .tc S8x128 32 [1] iota_S8x128_d1_w32, k0_pay1 (F := F) (512#32) (512#32) (512#32), 0#32⟩)
        -∗ wp frame (wpE (defs₀ (F := F)) 𝒱₀ (c : Thread nD τ) none) Set.univ (k0_part2 (F := F) xM (Memref.isWhole_whole _) destM (Memref.isWhole_whole _) cntsM (Memref.isWhole_whole _) outM (Memref.isWhole_whole _)
            cgM (Memref.isWhole_whole _) csmM (Memref.isWhole_whole _) baseM (Memref.isWhole_whole _) cntM (Memref.isWhole_whole _)
            sem8 sem9 sem10 sem11 sem12 c (SemArray.scalar (sig.barrier 0 rfl)) v30 v4 v31) Q) := by
  rw [k0_part2_eq_skeleton]
  unfold k0_part2_skel semSignalWord semWaitWord smemLoad
  simp only [smemLoadElt_bind, Prog.lift, Prog.bind_op, Prog.bind_ret, (by decide : (1#32 : BitVec 32).toInt = 1), (by decide : (3#32 : BitVec 32).toInt = 3)]
  iintro ⟨#HI, #Hl, HO, Ht, Hp, Hc, Hat, Hn⟩ Hk
  iapply (signal_bar x w K c (dev3_eq c) (bar_mem3 x w c) (Ocg1 w c)) $$ [HO Ht Hp]
  · isplitr; · iexact HI
    isplitl [HO]; · iexact HO
    isplitl [Ht] <;> iassumption
  iintro HO
  iapply (wait_bar x w K c) $$ [HO Hc Hat]
  · isplitr; · iexact HI
    isplitr; · iexact Hl
    isplitl [Hc]; · iexact Hc
    isplitl [HO] <;> iassumption
  iintro ⟨HO, Hat, H1, H2, H3⟩
  iapply (wp_cnts c (j := 0) rfl _ counts512) $$ Hn
  iintro Hn
  iapply (wp_cnts c (j := 1) rfl _ counts512) $$ Hn
  iintro Hn
  iapply (wp_cnts c (j := 2) rfl _ counts512) $$ Hn
  iintro Hn
  rw [wp_pure]
  imodintro
  iapply Hk
  isplitl [HO]; · iexact HO
  isplitl [Hat]; · iexact Hat
  isplitl [H1]; · iexact H1
  isplitl [H2]; · iexact H2
  isplitl [H3] <;> iassumption

/-! ## The own counts out -/

theorem part3_run (K : GSem nD τ sig → ℕ) (c : Dev nD) (v2 : BitVec 32)
    {Q : (Σ' (v103 : BitVec 32), BitVec 32) → sProp 𝕄} :
    iprop(recs x w K ∗ (∃ W, owes (c : Thread nD τ) (Ocg1 w c) W) ∗ (cntsLoc c ↦[univ]{fullShare} (counts512 : Buf (Elt F) (cntsLoc c)))
        ∗ slotAny (F := F) c c ∗ slotAny (F := F) (c + 1) c
        ∗ dutyTok ER (csendCell c 0) 0 (c, 0) ∗ reached ER (csendCell c 0) 0 ∗ dutyTok ER (crecvCell (c + 1) c) 0 (c, 0) ∗ reached ER (crecvCell (c + 1) c) 0)
      ⊢ iprop((∀ v, (cred (tallyAt (csendCell c 0) () Ncg) ∗ (∃ W, owes (c : Thread nD τ) (Ocg2 w c) W) ∗ (cntsLoc c ↦[univ]{fullShare} (counts512 : Buf (Elt F) (cntsLoc c)))
            ∗ csendPay (F := F) c 1 ∗ csendPay (F := F) c 2) -∗ Q v)
        -∗ wp frame (wpE (defs₀ (F := F)) 𝒱₀ (c : Thread nD τ) none) Set.univ (k0_part3 (F := F) xM (Memref.isWhole_whole _) destM (Memref.isWhole_whole _) cntsM (Memref.isWhole_whole _) outM (Memref.isWhole_whole _)
            cgM (Memref.isWhole_whole _) csmM (Memref.isWhole_whole _) baseM (Memref.isWhole_whole _) cntM (Memref.isWhole_whole _)
            sem8 sem9 sem10 sem11 sem12 c v2 (iota .tc S8x128 32 [0] iota_S8x128_d0_w32) (iota .tc S8x128 32 [1] iota_S8x128_d1_w32) (k0_pay1 (F := F) (512#32) (512#32) (512#32)) 0#32) Q) := by
  rw [k0_part3_eq_skeleton]
  unfold k0_part3_skel smemLoad
  simp only [smemLoadElt_bind, Prog.lift, Prog.bind_op, Prog.bind_ret]
  iintro ⟨#HI, ⟨%W, HO⟩, Hn, Hs, Hd, Ht, #Hr, Ht', #Hr'⟩ Hk
  iapply (wp_cnts c (j := 3) rfl _ counts512) $$ Hn
  iintro Hn
  iapply (load_slot c (k0_off1_eq c) _) $$ Hs
  iintro %v Hs
  iapply (store_slot c (k0_off1_eq c) _) $$ Hs
  unfold crecvPay
  iintro Hs
  ihave Hs := (Ring.pointsTo_thirds (I := slotSet c) fullShare (cgAll : Buf (Elt F) (cgLoc c))).1 $$ Hs
  icases Hs with ⟨H0, H1, H2⟩
  iapply (send_counts x w K c 0 (dev4_eq c) (add1_ne c).symm (k0_off3_eq c) (k0_off3_eq c) _ _ csend_sem0 (crecv_sem (k0_off2_eq c) _) (Ocg2 w c)) $$ [H0 Hd HO Ht Ht']
  · isplitr; · iexact HI
    isplitl [H0]; · unfold csendPay; iexact H0
    isplitl [Hd]; · iexact Hd
    isplitl [HO]; · iexact HO
    isplitl [Ht]; · iexact Ht
    isplitr; · iexact Hr
    isplitl [Ht']; · iexact Ht'
    iexact Hr'
  iintro ⟨Hc, HO⟩
  rw [wp_pure]
  imodintro
  iapply Hk $$ %_ [Hc HO Hn H1 H2]
  isplitl [Hc]; · iexact Hc
  isplitl [HO]; · iexists _; iexact HO
  isplitl [Hn]; · iexact Hn
  unfold csendPay
  isplitl [H1] <;> iassumption

theorem part4_run (K : GSem nD τ sig → ℕ) (c : Dev nD) (v2 v103 v105 : BitVec 32) {Q : PUnit → sProp 𝕄} :
    iprop(recs x w K ∗ (∃ W, owes (c : Thread nD τ) (Ocg2 w c) W) ∗ csendPay (F := F) c 1 ∗ slotAny (F := F) (c + 2) c
        ∗ dutyTok ER (csendCell c 1) 0 (c, 0) ∗ reached ER (csendCell c 1) 0 ∗ dutyTok ER (crecvCell (c + 2) c) 0 (c, 0) ∗ reached ER (crecvCell (c + 2) c) 0)
      ⊢ iprop(((cred (tallyAt (csendCell c 1) () Ncg) ∗ (∃ W, owes (c : Thread nD τ) (Ocg3 w c) W)) -∗ Q ⟨⟩)
        -∗ wp frame (wpE (defs₀ (F := F)) 𝒱₀ (c : Thread nD τ) none) Set.univ (k0_part4 (F := F) xM (Memref.isWhole_whole _) destM (Memref.isWhole_whole _) cntsM (Memref.isWhole_whole _) outM (Memref.isWhole_whole _)
            cgM (Memref.isWhole_whole _) csmM (Memref.isWhole_whole _) baseM (Memref.isWhole_whole _) cntM (Memref.isWhole_whole _)
            sem8 sem9 sem10 sem11 sem12 c v2 v103 v105) Q) := by
  rw [k0_part4_eq_skeleton]
  unfold k0_part4_skel
  simp only [Prog.lift, Prog.bind_op, Prog.bind_ret]
  iintro ⟨#HI, ⟨%W, HO⟩, H0, Hd, Ht, #Hr, Ht', #Hr'⟩ Hk
  iapply (send_counts x w K c 1 (dev5_eq c) (add2_ne c).symm (k0_off3_eq c) (k0_off3_eq c) _ _ csend_sem1 (crecv_sem (k0_off2_eq c) _) (Ocg3 w c)) $$ [H0 Hd HO Ht Ht']
  · isplitr; · iexact HI
    isplitl [H0]; · iexact H0
    isplitl [Hd]; · iexact Hd
    isplitl [HO]; · iexact HO
    isplitl [Ht]; · iexact Ht
    isplitr; · iexact Hr
    isplitl [Ht']; · iexact Ht'
    iexact Hr'
  iintro ⟨Hc, HO⟩
  rw [wp_pure]
  imodintro
  iapply Hk
  isplitl [Hc]; · iexact Hc
  iexists _; iexact HO

/-! ## The peers' counts in -/

/-- A wait's clause, at the semaphore and for the units it names. -/
theorem wait_clause (c : Dev nD) {sem : DmaSem sig} {j : Fin 10} (hs : (SemLoc.dma sem : SemLoc sig) = osem j) {N : ℕ} {sp sp' : Space} {s s' : Shape} {e e' : EltTy}
    {src : Memref sig (c : Thread nD τ).2.kind sp' s' e'} {κ' : Kind} {dst : Memref sig κ' sp s e} {hsrc : src.view.WordExact} {hdst : dst.view.WordExact}
    (hN : dst.view.dmaCredit = N) :
    ∀ K : PUnit → sProp 𝕄, wpE (defs₀ (F := F)) 𝒱₀ (c : Thread nD τ) none Set.univ (.waitDma2 sem src dst hsrc hdst) K = waitSpec (c : Thread nD τ) Set.univ (osem j) N K := by
  intro K
  rw [← hs, ← hN]
  exact wpE_waitDma2_eq 𝒱₀ (c : Thread nD τ) none Set.univ K

theorem wait_csend (K : GSem nD τ sig → ℕ) (c : Dev nD) (i : Fin 3) {sem : DmaSem sig} (hs : (SemLoc.dma sem : SemLoc sig) = csendS i)
    {off off' : Fin 3 → ℕ} (inb inb') {hsrc} {hdst} {α : Type} {Q : α → sProp 𝕄} {k : PUnit → Prog (TpuEff nD τ sig (Elt F) Λ₀ (c : Thread nD τ).2) α} :
    iprop(recs x w K ∗ levAts L lv ∗ cred (tallyAt (csendCell c i) () Ncg) ∗ (∃ W, owes (c : Thread nD τ) (Orow w c 0) W) ∗ atPos ER (csendCell c i) 0 ∅ 0)
      ⊢ iprop((((∃ W, owes (c : Thread nD τ) (Orow w c 0) W) ∗ atPos ER (csendCell c i) 1 ∅ 0 ∗ csendPay (F := F) c i)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem (cgSlot off inb) (cgSlot off' inb') hsrc hdst) k) Q) :=
  wait_one x w K c ⟨i.val, by omega⟩ (dut_csend x w c i) (exp_csend x w c i) (n := 2) (le_trans (le_of_eq (lv_csend c i)) (by decide)) (above_Orow w c 0)
    (wait_clause c hs rfl) (pay_csend x w c i _)

theorem wait_crecv (K : GSem nD τ sig → ℕ) (c s : Dev nD) (hsc : s ≠ c) {sem : DmaSem sig} (hs : (SemLoc.dma sem : SemLoc sig) = crecvS s)
    {off off' : Fin 3 → ℕ} (inb inb') {hsrc} {hdst} {α : Type} {Q : α → sProp 𝕄} {k : PUnit → Prog (TpuEff nD τ sig (Elt F) Λ₀ (c : Thread nD τ).2) α} :
    iprop(recs x w K ∗ levAts L lv ∗ cred (tallyAt (crecvCell c s) () Ncg) ∗ (∃ W, owes (c : Thread nD τ) (Orow w c 0) W) ∗ atPos ER (crecvCell c s) 0 ∅ 0)
      ⊢ iprop((((∃ W, owes (c : Thread nD τ) (Orow w c 0) W) ∗ atPos ER (crecvCell c s) 1 ∅ 0 ∗ crecvPay (F := F) c s)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem (cgSlot off inb) (cgSlot off' inb') hsrc hdst) k) Q) :=
  wait_one x w K c ⟨3 + s.val, by have : s.val < 4 := s.isLt; omega⟩ (dut_crecv x w c s hsc) (exp_crecv x w c s hsc) (n := 2) (le_of_eq (lv_crecv c s)) (above_Orow w c 0)
    (wait_clause c hs rfl) (pay_crecv x w c s _)

theorem part5_run (K : GSem nD τ sig → ℕ) (c : Dev nD) (v2 : BitVec 32)
    {Q : (Σ' (v172 : BitVec 32), BitVec 32) → sProp 𝕄} :
    iprop(recs x w K ∗ levAts L lv ∗ (∃ W, owes (c : Thread nD τ) (Ocg3 w c) W) ∗ csendPay (F := F) c 2 ∗ slotAny (F := F) (c + 3) c
        ∗ dutyTok ER (csendCell c 2) 0 (c, 0) ∗ reached ER (csendCell c 2) 0 ∗ dutyTok ER (crecvCell (c + 3) c) 0 (c, 0) ∗ reached ER (crecvCell (c + 3) c) 0
        ∗ cred (tallyAt (csendCell c 0) () Ncg) ∗ atPos ER (csendCell c 0) 0 ∅ 0 ∗ cred (tallyAt (crecvCell c (c + 3)) () Ncg) ∗ atPos ER (crecvCell c (c + 3)) 0 ∅ 0)
      ⊢ iprop((∀ v, (cred (tallyAt (csendCell c 2) () Ncg) ∗ (∃ W, owes (c : Thread nD τ) (Orow w c 0) W)
            ∗ atPos ER (csendCell c 0) 1 ∅ 0 ∗ csendPay (F := F) c 0 ∗ atPos ER (crecvCell c (c + 3)) 1 ∅ 0 ∗ crecvPay (F := F) c (c + 3)) -∗ Q v)
        -∗ wp frame (wpE (defs₀ (F := F)) 𝒱₀ (c : Thread nD τ) none) Set.univ (k0_part5 (F := F) xM (Memref.isWhole_whole _) destM (Memref.isWhole_whole _) cntsM (Memref.isWhole_whole _) outM (Memref.isWhole_whole _)
            cgM (Memref.isWhole_whole _) csmM (Memref.isWhole_whole _) baseM (Memref.isWhole_whole _) cntM (Memref.isWhole_whole _)
            sem8 sem9 sem10 sem11 sem12 c v2) Q) := by
  rw [k0_part5_eq_skeleton]
  unfold k0_part5_skel
  simp only [Prog.lift, Prog.bind_op, Prog.bind_ret]
  iintro ⟨#HI, #Hl, ⟨%W, HO⟩, H0, Hd, Ht, #Hr, Ht', #Hr', Hcs, Has, Hcr, Har⟩ Hk
  iapply (send_counts x w K c 2 (dev6_eq c) (add3_ne c).symm (k0_off3_eq c) (k0_off3_eq c) _ _ csend_sem2 (crecv_sem (k0_off2_eq c) _) (Orow w c 0)) $$ [H0 Hd HO Ht Ht']
  · isplitr; · iexact HI
    isplitl [H0]; · iexact H0
    isplitl [Hd]; · iexact Hd
    isplitl [HO]; · iexact HO
    isplitl [Ht]; · iexact Ht
    isplitr; · iexact Hr
    isplitl [Ht']; · iexact Ht'
    iexact Hr'
  iintro ⟨Hc, HO⟩
  iapply (wait_csend x w K c 0 csend_sem0 _ _) $$ [Hcs HO Has]
  · isplitr; · iexact HI
    isplitr; · iexact Hl
    isplitl [Hcs]; · iexact Hcs
    isplitl [HO]; · iexists _; iexact HO
    iexact Has
  iintro ⟨HO, Has, Hp⟩
  iapply (wait_crecv x w K c (c + 3) (add3_ne c) (crecv_sem (off5_1 c) _) _ _) $$ [Hcr HO Har]
  · isplitr; · iexact HI
    isplitr; · iexact Hl
    isplitl [Hcr]; · iexact Hcr
    isplitl [HO] <;> iassumption
  iintro ⟨HO, Har, Hp'⟩
  rw [wp_pure]
  imodintro
  iapply Hk $$ %_ [Hc HO Has Hp Har Hp']
  isplitl [Hc]; · iexact Hc
  isplitl [HO]; · iexact HO
  isplitl [Has]; · iexact Has
  isplitl [Hp]; · iexact Hp
  isplitl [Har] <;> iassumption

theorem part6_run (K : GSem nD τ sig → ℕ) (c : Dev nD) (v2 v172 v173 : BitVec 32) {Q : BitVec 32 → sProp 𝕄} :
    iprop(recs x w K ∗ levAts L lv ∗ (∃ W, owes (c : Thread nD τ) (Orow w c 0) W)
        ∗ cred (tallyAt (csendCell c 1) () Ncg) ∗ atPos ER (csendCell c 1) 0 ∅ 0 ∗ cred (tallyAt (crecvCell c (c + 2)) () Ncg) ∗ atPos ER (crecvCell c (c + 2)) 0 ∅ 0)
      ⊢ iprop((∀ v, ((∃ W, owes (c : Thread nD τ) (Orow w c 0) W)
            ∗ atPos ER (csendCell c 1) 1 ∅ 0 ∗ csendPay (F := F) c 1 ∗ atPos ER (crecvCell c (c + 2)) 1 ∅ 0 ∗ crecvPay (F := F) c (c + 2)) -∗ Q v)
        -∗ wp frame (wpE (defs₀ (F := F)) 𝒱₀ (c : Thread nD τ) none) Set.univ (k0_part6 (F := F) xM (Memref.isWhole_whole _) destM (Memref.isWhole_whole _) cntsM (Memref.isWhole_whole _) outM (Memref.isWhole_whole _)
            cgM (Memref.isWhole_whole _) csmM (Memref.isWhole_whole _) baseM (Memref.isWhole_whole _) cntM (Memref.isWhole_whole _)
            sem8 sem9 sem10 sem11 sem12 c v2 v172 v173) Q) := by
  rw [k0_part6_eq_skeleton]
  unfold k0_part6_skel
  simp only [Prog.lift, Prog.bind_op, Prog.bind_ret]
  iintro ⟨#HI, #Hl, HO, Hcs, Has, Hcr, Har⟩ Hk
  iapply (wait_csend x w K c 1 csend_sem1 _ _) $$ [Hcs HO Has]
  · isplitr; · iexact HI
    isplitr; · iexact Hl
    isplitl [Hcs]; · iexact Hcs
    isplitl [HO] <;> iassumption
  iintro ⟨HO, Has, Hp⟩
  iapply (wait_crecv x w K c (c + 2) (add2_ne c) (crecv_sem (off5_2 c) _) _ _) $$ [Hcr HO Har]
  · isplitr; · iexact HI
    isplitr; · iexact Hl
    isplitl [Hcr]; · iexact Hcr
    isplitl [HO] <;> iassumption
  iintro ⟨HO, Har, Hp'⟩
  rw [wp_pure]
  imodintro
  iapply Hk $$ %_ [HO Has Hp Har Hp']
  isplitl [HO]; · iexact HO
  isplitl [Has]; · iexact Has
  isplitl [Hp]; · iexact Hp
  isplitl [Har] <;> iassumption

/-! ## The copy into scalar memory, and the sums -/

/-- The sums of the counts of the devices before `v`, one device after the other. -/
abbrev sum1 (v : BitVec 32) : BitVec 32 := Scalar.addi 0#32 (Scalar.select (Scalar.cmpi .sgt v 0#32) 512#32 0#32)
abbrev sum2 (v : BitVec 32) : BitVec 32 := Scalar.addi (sum1 v) (Scalar.select (Scalar.cmpi .sgt v 1#32) 512#32 0#32)
abbrev sum3 (v : BitVec 32) : BitVec 32 := Scalar.addi (sum2 v) (Scalar.select (Scalar.cmpi .sgt v 2#32) 512#32 0#32)
abbrev sum4 (v : BitVec 32) : BitVec 32 := Scalar.addi (sum3 v) (Scalar.select (Scalar.cmpi .sgt v 3#32) 512#32 0#32)

theorem sum4_eq (c : Dev nD) : sum4 (BitVec.ofNat 32 c.val) = BitVec.ofNat 32 (512 * c.val) := by revert c; decide

/-- The own slot and the peers' are the gathered counts. -/
theorem slots_join (c : Dev nD) :
    iprop(csendPay (F := F) c 0 ∗ csendPay (F := F) c 1 ∗ csendPay (F := F) c 2 ∗ crecvPay (F := F) c (c + 1) ∗ crecvPay (F := F) c (c + 2) ∗ crecvPay (F := F) c (c + 3))
      ⊢ (cgLoc c ↦[univ]{fullShare} (cgAll : Buf (Elt F) (cgLoc c)) : sProp 𝕄) := by
  rw [cg_slots, bigSep_univ_at _ c, bigSep_peers]
  unfold csendPay crecvPay
  iintro ⟨H0, H1, H2, H3, H4, H5⟩
  isplitl [H0 H1 H2]
  · iapply (Ring.pointsTo_thirds (I := slotSet c) fullShare (cgAll : Buf (Elt F) (cgLoc c))).2
    isplitl [H0]; · iexact H0
    isplitl [H1] <;> iassumption
  isplitl [H3]; · iexact H3
  isplitl [H4] <;> iassumption

theorem part7_run (K : GSem nD τ sig → ℕ) (c : Dev nD) (v205 : BitVec 32) (f : Buf (Elt F) (csmLoc c))
    {Q : (Σ' (v231 : BitVec 32), BitVec 1) → sProp 𝕄} :
    iprop(recs x w K ∗ levAts L lv ∗ (∃ W, owes (c : Thread nD τ) (Orow w c 0) W)
        ∗ cred (tallyAt (csendCell c 2) () Ncg) ∗ atPos ER (csendCell c 2) 0 ∅ 0 ∗ cred (tallyAt (crecvCell c (c + 1)) () Ncg) ∗ atPos ER (crecvCell c (c + 1)) 0 ∅ 0
        ∗ csendPay (F := F) c 0 ∗ csendPay (F := F) c 1 ∗ crecvPay (F := F) c (c + 2) ∗ crecvPay (F := F) c (c + 3)
        ∗ (csmLoc c ↦[univ]{fullShare} f) ∗ dutyTok ER (clocCell c) 0 (c, 0) ∗ reached ER (clocCell c) 0 ∗ atPos ER (clocCell c) 0 ∅ 0)
      ⊢ iprop((((∃ W, owes (c : Thread nD τ) (Orow w c 0) W)
            ∗ atPos ER (csendCell c 2) 1 ∅ 0 ∗ atPos ER (crecvCell c (c + 1)) 1 ∅ 0 ∗ atPos ER (clocCell c) 1 ∅ 0 ∗ clocPay (F := F) c)
          -∗ Q ⟨sum3 (BitVec.ofNat 32 c.val), Scalar.cmpi .sgt (BitVec.ofNat 32 c.val) 3#32⟩)
        -∗ wp frame (wpE (defs₀ (F := F)) 𝒱₀ (c : Thread nD τ) none) Set.univ (k0_part7 (F := F) xM (Memref.isWhole_whole _) destM (Memref.isWhole_whole _) cntsM (Memref.isWhole_whole _) outM (Memref.isWhole_whole _)
            cgM (Memref.isWhole_whole _) csmM (Memref.isWhole_whole _) baseM (Memref.isWhole_whole _) cntM (Memref.isWhole_whole _)
            sem8 sem9 sem10 sem11 sem12 c (BitVec.ofNat 32 c.val) v205) Q) := by
  rw [k0_part7_eq_skeleton]
  unfold k0_part7_skel smemLoad
  simp only [smemLoadElt_bind, Prog.lift, Prog.bind_op, Prog.bind_ret]
  iintro ⟨#HI, #Hl, HO, Hcs, Has, Hcr, Har, H0, H1, H4, H5, Hm, Ht, #Hr, Hal⟩ Hk
  iapply (wait_csend x w K c 2 csend_sem2 _ _) $$ [Hcs HO Has]
  · isplitr; · iexact HI
    isplitr; · iexact Hl
    isplitl [Hcs]; · iexact Hcs
    isplitl [HO] <;> iassumption
  iintro ⟨HO, Has, H2⟩
  iapply (wait_crecv x w K c (c + 1) (add1_ne c) (crecv_sem (off5_3 c) _) _ _) $$ [Hcr HO Har]
  · isplitr; · iexact HI
    isplitr; · iexact Hl
    isplitl [Hcr]; · iexact Hcr
    isplitl [HO] <;> iassumption
  iintro ⟨HO, Har, H3⟩
  ihave Hg := (slots_join (F := F) c) $$ [H0 H1 H2 H3 H4 H5]
  · isplitl [H0]; · iexact H0
    isplitl [H1]; · iexact H1
    isplitl [H2]; · iexact H2
    isplitl [H3]; · iexact H3
    isplitl [H4] <;> iassumption
  iapply (copy_counts x w K c f) $$ [Hg Hm Ht]
  · isplitr; · iexact HI
    isplitl [Hg]; · iexact Hg
    isplitl [Hm]; · iexact Hm
    isplitl [Ht]; · iexact Ht
    iexact Hr
  iintro Hc
  iapply (wait_one x w K c 7 (dut_cloc x w c) (exp_cloc x w c) (n := 2) (O := Orow w c 0) (le_trans (le_of_eq (lv_cloc c)) (by decide)) (above_Orow w c 0)
    (wait_clause c rfl rfl) (pay_cloc x w c _)) $$ [Hc HO Hal]
  · isplitr; · iexact HI
    isplitr; · iexact Hl
    isplitl [Hc]; · iexact Hc
    isplitl [HO] <;> iassumption
  unfold clocPay
  iintro ⟨HO, Hal, Hm, Hg⟩
  iapply (wp_csm c rfl (by decide) _) $$ Hm
  iintro Hm
  iapply (wp_csm c rfl (by decide) _) $$ Hm
  iintro Hm
  iapply (wp_csm c rfl (by decide) _) $$ Hm
  iintro Hm
  rw [wp_pure]
  imodintro
  iapply Hk
  isplitl [HO]; · iexact HO
  isplitl [Has]; · iexact Has
  isplitl [Har]; · iexact Har
  isplitl [Hal]; · iexact Hal
  isplitl [Hm] <;> iassumption

theorem part8_run (c : Dev nD) (f g : S4.Idx → BitVec 32) {Q : BitVec 1 → sProp 𝕄} :
    iprop((csmLoc c ↦[univ]{fullShare} (cgAll : Buf (Elt F) (csmLoc c))) ∗ (baseLoc c ↦[univ]{fullShare} (f : Buf (Elt F) (baseLoc c))) ∗ (cntLoc c ↦[univ]{fullShare} (g : Buf (Elt F) (cntLoc c))))
      ⊢ iprop((((csmLoc c ↦[univ]{fullShare} (cgAll : Buf (Elt F) (csmLoc c)))
            ∗ (baseLoc c ↦[univ]{fullShare} (setF (setF f 0 (sum4 (BitVec.ofNat 32 c.val))) 1 (sum4 (BitVec.ofNat 32 c.val)) : Buf (Elt F) (baseLoc c)))
            ∗ (cntLoc c ↦[univ]{fullShare} (setF (setF g 0 0#32) 1 0#32 : Buf (Elt F) (cntLoc c)))) -∗ Q (Scalar.cmpi .sgt (BitVec.ofNat 32 c.val) 0#32))
        -∗ wp frame (wpE (defs₀ (F := F)) 𝒱₀ (c : Thread nD τ) none) Set.univ (k0_part8 (F := F) xM (Memref.isWhole_whole _) destM (Memref.isWhole_whole _) cntsM (Memref.isWhole_whole _) outM (Memref.isWhole_whole _)
            cgM (Memref.isWhole_whole _) csmM (Memref.isWhole_whole _) baseM (Memref.isWhole_whole _) cntM (Memref.isWhole_whole _)
            sem8 sem9 sem10 sem11 sem12 (BitVec.ofNat 32 c.val) (sum3 (BitVec.ofNat 32 c.val)) (Scalar.cmpi .sgt (BitVec.ofNat 32 c.val) 3#32)) Q) := by
  rw [k0_part8_eq_skeleton]
  unfold k0_part8_skel smemLoad
  simp only [smemLoadElt_bind, Prog.lift, Prog.bind_op, Prog.bind_ret]
  iintro ⟨Hm, Hb, Hn⟩ Hk
  iapply (wp_csm c rfl (by decide) _) $$ Hm
  iintro Hm
  iapply (wp_base c (j := 0) rfl _ f) $$ Hb
  iintro Hb
  iapply (wp_setBase c (j := 0) rfl _ _ f) $$ Hb
  iintro Hb
  iapply (wp_cnt c (j := 0) rfl _ g) $$ Hn
  iintro Hn
  iapply (wp_setCnt c (j := 0) rfl _ _ g) $$ Hn
  iintro Hn
  iapply (wp_csm c rfl (by decide) _) $$ Hm
  iintro Hm
  iapply (wp_csm c rfl (by decide) _) $$ Hm
  iintro Hm
  iapply (wp_csm c rfl (by decide) _) $$ Hm
  iintro Hm
  iapply (wp_csm c rfl (by decide) _) $$ Hm
  iintro Hm
  iapply (wp_base c (j := 1) rfl _ _) $$ Hb
  iintro Hb
  iapply (wp_setBase c (j := 1) rfl _ _ _) $$ Hb
  iintro Hb
  iapply (wp_cnt c (j := 1) rfl _ _) $$ Hn
  iintro Hn
  iapply (wp_setCnt c (j := 1) rfl _ _ _) $$ Hn
  iintro Hn
  rw [wp_pure]
  imodintro
  iapply Hk
  isplitl [Hm]; · iexact Hm
  isplitl [Hb] <;> iassumption

theorem part9_run (c : Dev nD) (f g : S4.Idx → BitVec 32) {Q : (Σ' (v281 : BitVec 32), BitVec 32) → sProp 𝕄} :
    iprop((csmLoc c ↦[univ]{fullShare} (cgAll : Buf (Elt F) (csmLoc c))) ∗ (baseLoc c ↦[univ]{fullShare} (f : Buf (Elt F) (baseLoc c))) ∗ (cntLoc c ↦[univ]{fullShare} (g : Buf (Elt F) (cntLoc c))))
      ⊢ iprop((((csmLoc c ↦[univ]{fullShare} (cgAll : Buf (Elt F) (csmLoc c)))
            ∗ (baseLoc c ↦[univ]{fullShare} (setF f 2 (sum4 (BitVec.ofNat 32 c.val)) : Buf (Elt F) (baseLoc c)))
            ∗ (cntLoc c ↦[univ]{fullShare} (setF g 2 0#32 : Buf (Elt F) (cntLoc c)))) -∗ Q ⟨sum2 (BitVec.ofNat 32 c.val), 2#32⟩)
        -∗ wp frame (wpE (defs₀ (F := F)) 𝒱₀ (c : Thread nD τ) none) Set.univ (k0_part9 (F := F) xM (Memref.isWhole_whole _) destM (Memref.isWhole_whole _) cntsM (Memref.isWhole_whole _) outM (Memref.isWhole_whole _)
            cgM (Memref.isWhole_whole _) csmM (Memref.isWhole_whole _) baseM (Memref.isWhole_whole _) cntM (Memref.isWhole_whole _)
            sem8 sem9 sem10 sem11 sem12 (BitVec.ofNat 32 c.val) (Scalar.cmpi .sgt (BitVec.ofNat 32 c.val) 0#32)) Q) := by
  rw [k0_part9_eq_skeleton]
  unfold k0_part9_skel smemLoad
  simp only [smemLoadElt_bind, Prog.lift, Prog.bind_op, Prog.bind_ret]
  iintro ⟨Hm, Hb, Hn⟩ Hk
  iapply (wp_csm c rfl (by decide) _) $$ Hm
  iintro Hm
  iapply (wp_csm c rfl (by decide) _) $$ Hm
  iintro Hm
  iapply (wp_csm c rfl (by decide) _) $$ Hm
  iintro Hm
  iapply (wp_csm c rfl (by decide) _) $$ Hm
  iintro Hm
  iapply (wp_base c (j := 2) rfl _ f) $$ Hb
  iintro Hb
  iapply (wp_setBase c (j := 2) rfl _ _ f) $$ Hb
  iintro Hb
  iapply (wp_cnt c (j := 2) rfl _ g) $$ Hn
  iintro Hn
  iapply (wp_setCnt c (j := 2) rfl _ _ g) $$ Hn
  iintro Hn
  iapply (wp_csm c rfl (by decide) _) $$ Hm
  iintro Hm
  iapply (wp_csm c rfl (by decide) _) $$ Hm
  iintro Hm
  rw [wp_pure]
  imodintro
  iapply Hk
  isplitl [Hm]; · iexact Hm
  isplitl [Hb] <;> iassumption

end Cert.KernelIdeal.Own
-- ==== Proof.Cuts.lean ====
/-
  The kernel's whole body on one device: from its buffers, its open cells, its tokens and its debts to
  its buffers with the result in its final contents, its cells closed at zero, and no debt.
-/
module

public import proofs.«01_k».proof.Proof.Parts

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Finset (univ filter)

variable {F : FTy → Type} [FloatOps F]

local notation "𝕄" => MT nD τ sig Unit (Elt F) ℕ UU ℕ

variable (x : Dev nD → S2048x1024.Idx → Elt F .f32) (w : Dev nD → S2048.Idx → BitVec 32)

/-! ## What the body starts from and ends with -/

/-- The number of the cell of arrivals from `s`. -/
abbrev slotIx (s : Dev nD) : Fin 10 := ⟨3 + s.val, by have : s.val < 4 := s.isLt; omega⟩

theorem ten_set : ∀ c : Dev nD, (univ : Finset (Fin 10)) = {0, 1, 2, slotIx c, slotIx (c + 1), slotIx (c + 2), slotIx (c + 3), 7, 8, 9} := by decide

theorem ten_ne : ∀ c : Dev nD,
    (0 : Fin 10) ∉ ({1, 2, slotIx c, slotIx (c + 1), slotIx (c + 2), slotIx (c + 3), 7, 8, 9} : Finset (Fin 10))
    ∧ (1 : Fin 10) ∉ ({2, slotIx c, slotIx (c + 1), slotIx (c + 2), slotIx (c + 3), 7, 8, 9} : Finset (Fin 10))
    ∧ (2 : Fin 10) ∉ ({slotIx c, slotIx (c + 1), slotIx (c + 2), slotIx (c + 3), 7, 8, 9} : Finset (Fin 10))
    ∧ slotIx c ∉ ({slotIx (c + 1), slotIx (c + 2), slotIx (c + 3), 7, 8, 9} : Finset (Fin 10))
    ∧ slotIx (c + 1) ∉ ({slotIx (c + 2), slotIx (c + 3), 7, 8, 9} : Finset (Fin 10))
    ∧ slotIx (c + 2) ∉ ({slotIx (c + 3), 7, 8, 9} : Finset (Fin 10))
    ∧ slotIx (c + 3) ∉ ({7, 8, 9} : Finset (Fin 10)) := by decide

/-- The ten transfer cells, named. -/
theorem ten (c : Dev nD) (Φ : SemLoc sig → sProp 𝕄) :
    (bigSep univ fun i : Fin 10 => Φ (osem i))
      = iprop(Φ (csendS 0) ∗ Φ (csendS 1) ∗ Φ (csendS 2) ∗ Φ (crecvS c) ∗ Φ (crecvS (c + 1)) ∗ Φ (crecvS (c + 2)) ∗ Φ (crecvS (c + 3))
          ∗ Φ clocS ∗ Φ ssemS ∗ Φ rsemS) := by
  obtain ⟨h0, h1, h2, h3, h4, h5, h6⟩ := ten_ne c
  rw [ten_set c, bigSep_insert h0, bigSep_insert h1, bigSep_insert h2, bigSep_insert h3, bigSep_insert h4, bigSep_insert h5,
    bigSep_insert h6, bigSep_insert (by decide), bigSep_insert (by decide), bigSep_singleton]
  rfl

/-- The tokens of the duties that a device carries out. -/
def toks (c : Dev nD) : sProp 𝕄 :=
  iprop((dutyTok ER (barCell (c + 1)) 0 (c, 0) ∗ dutyTok ER (barCell (c + 2)) 0 (c, 0) ∗ dutyTok ER (barCell (c + 3)) 0 (c, 0))
    ∗ (dutyTok ER (csendCell c 0) 0 (c, 0) ∗ dutyTok ER (csendCell c 1) 0 (c, 0) ∗ dutyTok ER (csendCell c 2) 0 (c, 0))
    ∗ (dutyTok ER (crecvCell (c + 1) c) 0 (c, 0) ∗ dutyTok ER (crecvCell (c + 2) c) 0 (c, 0) ∗ dutyTok ER (crecvCell (c + 3) c) 0 (c, 0))
    ∗ dutyTok ER (clocCell c) 0 (c, 0)
    ∗ (bigSep (goSet w c 0) fun r => dutyTok ER (ssemCell c) 0 (c, r))
    ∗ bigSep (goSet w c 0) fun r => dutyTok ER (rsemCell (dst w c r)) 0 (c, r))

/-- The body's start: its cells open, its tokens, the units it will wait for, its debts, its operands and its buffers. -/
def bodyPre (K : GSem nD τ sig → ℕ) (c : Dev nD) (W : Waits sig Unit) : sProp 𝕄 :=
  iprop(recs x w K ∗ levAts L lv ∗ owes (c : Thread nD τ) (Obar1 w c) W
    ∗ atPos ER (barCell c) 0 ∅ 0 ∗ (bigSep univ fun i : Fin 10 => atPos ER (oCell c i) 0 ∅ 0) ∗ (bigSep univ fun i : Fin 10 => reached ER (oCell c i) 0)
    ∗ toks w c
    ∗ cred (tallyAt (barCell c) () 3) ∗ (cred (tallyAt (crecvCell c (c + 1)) () Ncg) ∗ cred (tallyAt (crecvCell c (c + 2)) () Ncg) ∗ cred (tallyAt (crecvCell c (c + 3)) () Ncg))
    ∗ cred (tallyAt (rsemCell c) () (1536 * Nrow))
    ∗ (xLoc c ↦[univ]{fullShare} (x c : Buf (Elt F) (xLoc c)))
    ∗ (destLoc c ↦[univ]{fullShare} (w c : Buf (Elt F) (destLoc c)))
    ∗ (cntsLoc c ↦[univ]{fullShare} (counts512 : Buf (Elt F) (cntsLoc c)))
    ∗ (∃ f : Buf (Elt F) (outLoc c), outLoc c ↦[univ]{fullShare} f)
    ∗ (∃ f : Buf (Elt F) (cgLoc c), cgLoc c ↦[univ]{fullShare} f) ∗ (∃ f : Buf (Elt F) (csmLoc c), csmLoc c ↦[univ]{fullShare} f)
    ∗ (∃ f : Buf (Elt F) (baseLoc c), baseLoc c ↦[univ]{fullShare} f) ∗ (∃ f : Buf (Elt F) (cntLoc c), cntLoc c ↦[univ]{fullShare} f))

/-- The body's end: its cells closed at zero, the result, its operands and its buffers, and no debt. -/
def bodyPost (c : Dev nD) : sProp 𝕄 :=
  iprop(semVal (barCell c) 0 ∗ (bigSep univ fun i : Fin 10 => semVal (oCell c i) 0)
    ∗ (xLoc c ↦[univ]{fullShare} (x c : Buf (Elt F) (xLoc c)))
    ∗ (destLoc c ↦[univ]{fullShare} (w c : Buf (Elt F) (destLoc c)))
    ∗ (cntsLoc c ↦[univ]{fullShare} (counts512 : Buf (Elt F) (cntsLoc c)))
    ∗ (outLoc c ↦[univ]{fullShare} (outF x w c : Buf (Elt F) (outLoc c)))
    ∗ (∃ f : Buf (Elt F) (cgLoc c), cgLoc c ↦[univ]{fullShare} f) ∗ (∃ f : Buf (Elt F) (csmLoc c), csmLoc c ↦[univ]{fullShare} f)
    ∗ (∃ f : Buf (Elt F) (baseLoc c), baseLoc c ↦[univ]{fullShare} f) ∗ (∃ f : Buf (Elt F) (cntLoc c), cntLoc c ↦[univ]{fullShare} f)
    ∗ ∃ W, owes (c : Thread nD τ) (0 : CellTallies nD τ sig Unit) W)

/-! ## Cutting and joining -/

/-- The gathered counts' buffer by slots. -/
theorem cg_cut (c : Dev nD) (f : Buf (Elt F) (cgLoc c)) :
    (cgLoc c ↦[univ]{fullShare} f : sProp 𝕄) ⊢ iprop(slotAny c c ∗ slotAny c (c + 1) ∗ slotAny c (c + 2) ∗ slotAny c (c + 3)) := by
  rw [cg_slots, bigSep_univ_at _ c, bigSep_peers]
  unfold slotAny
  iintro ⟨H0, H1, H2, H3⟩
  isplitl [H0]; · iexists f; iexact H0
  isplitl [H1]; · iexists f; iexact H1
  isplitl [H2]; · iexists f; iexact H2
  iexists f; iexact H3

/-- The rows of `c`'s result that `z` fills. -/
abbrev fills (c z : Dev nD) : sProp 𝕄 := bigSep (sendSet w z c) fun r => outAny c (landF (dst w) z r)

variable {w} in
theorem out_cut3 (hw : ∀ z, Good (w z)) (c : Dev nD) (f : Buf (Elt F) (outLoc c)) :
    (outLoc c ↦[univ]{fullShare} f : sProp 𝕄) ⊢ iprop(fills w c c ∗ fills w c (c + 1) ∗ fills w c (c + 2) ∗ fills w c (c + 3)) := by
  refine (out_cut hw c f).trans ?_
  rw [bigSep_peers]

/-- The peers' rows that `c` fills, row by row. -/
theorem rows_join (c : Dev nD) :
    iprop(fills w (c + 1) c ∗ fills w (c + 2) c ∗ fills w (c + 3) c)
      ⊢ (bigSep (goSet w c 0) fun r => outAny (F := F) (dst w c r) (landF (dst w) c r) : sProp 𝕄) := by
  have e : ∀ q : Dev nD, (bigSep (sendSet w c q) fun r => outAny (F := F) (dst w c r) (landF (dst w) c r)) = fills w q c := by
    intro q
    refine bigSep_congr fun r hr => ?_
    rw [(Finset.mem_filter.mp hr).2]
  rw [bigSep_goSet, bigSep_peers, e, e, e]

/-- What the rows that leave need. -/
theorem go_rows (c : Dev nD) :
    iprop((bigSep (goSet w c 0) fun r => xLoc c ↦[rowSet r]{fullShare} (x c : Buf (Elt F) (xLoc c)))
        ∗ (bigSep (goSet w c 0) fun r => outAny (F := F) (dst w c r) (landF (dst w) c r))
        ∗ (bigSep (goSet w c 0) fun r => dutyTok ER (ssemCell c) 0 (c, r))
        ∗ bigSep (goSet w c 0) fun r => dutyTok ER (rsemCell (dst w c r)) 0 (c, r))
      ⊢ (bigSep (goSet w c 0) (goRow x w c) : sProp 𝕄) := by
  have e : (bigSep (goSet w c 0) (goRow x w c) : sProp 𝕄) = bigSep (goSet w c 0) fun r =>
      iprop((xLoc c ↦[rowSet r]{fullShare} (x c : Buf (Elt F) (xLoc c))) ∗ outAny (dst w c r) (landF (dst w) c r)
        ∗ dutyTok ER (ssemCell c) 0 (c, r) ∗ dutyTok ER (rsemCell (dst w c r)) 0 (c, r)) := rfl
  rw [e, bigSep_sep', bigSep_sep', bigSep_sep']

/-- What the rows that stay need. -/
theorem stay_rows (c : Dev nD) :
    iprop((bigSep (sendSet w c c) fun r => xLoc c ↦[rowSet r]{fullShare} (x c : Buf (Elt F) (xLoc c))) ∗ fills (F := F) w c c)
      ⊢ iprop(bigSep (stayGo w c 0) (stayRow x w c) ∗ bigSep (stayDone w c 0) (stayed x w c) : sProp 𝕄) := by
  have e : (bigSep (sendSet w c c) (stayRow x w c) : sProp 𝕄) = bigSep (sendSet w c c) fun r =>
      iprop((xLoc c ↦[rowSet r]{fullShare} (x c : Buf (Elt F) (xLoc c))) ∗ outAny c (landF (dst w) c r)) := rfl
  rw [stayGo_zero, stayDone_zero, bigSep_empty, e, bigSep_sep']
  iintro ⟨H1, H2⟩
  isplitl
  · isplitl [H1] <;> iassumption
  · iempintro

variable {w} in
/-- All rows back and all rows of the result in place. -/
theorem rows_back (hw : ∀ z, Good (w z)) (c : Dev nD) :
    iprop((bigSep ((Rd x w).duties (ssemCell c) 0) fun e => (Rd x w).payload (ssemCell c) 0 e)
        ∗ (bigSep ((Rd x w).duties (rsemCell c) 0) fun e => (Rd x w).payload (rsemCell c) 0 e)
        ∗ bigSep (stayDone w c 2048) (stayed x w c))
      ⊢ iprop((xLoc c ↦[univ]{fullShare} (x c : Buf (Elt F) (xLoc c))) ∗ (outLoc c ↦[univ]{fullShare} (outF x w c : Buf (Elt F) (outLoc c))) : sProp 𝕄) := by
  have e : (bigSep (sendSet w c c) (stayed x w c) : sProp 𝕄) = bigSep (sendSet w c c) fun r =>
      iprop((xLoc c ↦[rowSet r]{fullShare} (x c : Buf (Elt F) (xLoc c))) ∗ rsemPay x w c (c, r)) := rfl
  rw [dut_ssem, dut_rsem, stayDone_end, e, bigSep_sep', bigSep_awayD, x_rows, bigSep_go_stay w c]
  iintro ⟨H1, H2, H3, H4⟩
  isplitl [H1 H3]
  · isplitl [H1]
    · iexact H1
    · iexact H3
  · iapply (out_join x hw c)
    isplitl [H2]
    · iexact H2
    · iexact H4

/-! ## The tables -/

theorem base_table (c : Dev nD) (f : S4.Idx → BitVec 32) {v : BitVec 32} (hv : v = BitVec.ofNat 32 (512 * c.val)) :
    setF (setF (setF (setF f 0 v) 1 v) 2 v) 3 v = baseF c := by
  funext i
  unfold setF baseF
  rw [← hv]
  generalize ent i = k
  revert k
  intro k
  fin_cases k <;> rfl

theorem cnt_table (d : Fin 2048 → Fin 4) (f : S4.Idx → BitVec 32) :
    setF (setF (setF (setF f 0 0#32) 1 0#32) 2 0#32) 3 0#32 = cntF d 0 := by
  funext i
  unfold setF cntF
  rw [before_zero]
  generalize ent i = k
  revert k
  intro k
  fin_cases k <;> rfl

theorem trips1 : k0_t1_loop.trips = 2048 := by decide +kernel
theorem trips2 : k0_t2_loop.trips = 2048 := by decide +kernel
theorem trips3 : (k0_t3_loop 512#32).trips = 1536 := by decide +kernel

end Cert.KernelIdeal.Own
-- ==== Proof.Body.lean ====
/-
  The kernel's whole body on one device: from its buffers, its open cells, its tokens and its debts to
  its buffers with the result in its final contents, its cells closed at zero, and no debt.
-/
module

public import proofs.«01_k».proof.Proof.Cuts

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Finset (univ filter)

variable {F : FTy → Type} [FloatOps F]

local notation "𝕄" => MT nD τ sig Unit (Elt F) ℕ UU ℕ

variable (x : Dev nD → S2048x1024.Idx → Elt F .f32) (w : Dev nD → S2048.Idx → BitVec 32)

variable {w} in
/-- A cell whose one round is over is closed at zero. -/
theorem close_o (K : GSem nD τ sig → ℕ) (c : Dev nD) (i : Fin 10) :
    iprop(recs x w K ∗ atPos ER (oCell c i) 1 ∅ 0) ⊢ iprop(|={Set.univ}=> semVal (oCell c i) 0 : sProp 𝕄) := by
  refine (sep_mono_left (inv_o x w K c i)).trans ?_
  exact cell_close ER (Rd x w) (Set.mem_univ _) id (dut_later x w _)

variable {w} in
theorem close_self (K : GSem nD τ sig → ℕ) (c : Dev nD) :
    iprop(recs x w K ∗ atPos ER (crecvCell c c) 0 ∅ 0) ⊢ iprop(|={Set.univ}=> semVal (crecvCell c c) 0 : sProp 𝕄) := by
  refine (sep_mono_left (inv_o x w K c (slotIx c))).trans ?_
  refine cell_close ER (Rd x w) (Set.mem_univ _) id (fun r _ => ?_)
  by_cases hr : r = 0
  · subst hr; exact dut_crecv_self x w c
  · exact dut_later x w _ r (Nat.one_le_iff_ne_zero.mpr hr)

variable {w} in
theorem close_bar (K : GSem nD τ sig → ℕ) (c : Dev nD) :
    iprop(recs x w K ∗ atPos ER (barCell c) 1 ∅ 0) ⊢ iprop(|={Set.univ}=> semVal (barCell c) 0 : sProp 𝕄) := by
  refine (sep_mono_left (inv_bar x w K c)).trans ?_
  exact cell_close ER (Rd x w) (Set.mem_univ _) id (dut_later x w _)

variable {w} in
/-- After the last send nothing is owed, and every row sent may be waited for. -/
theorem send_end (hw : ∀ z, Good (w z)) (K : GSem nD τ sig → ℕ) (c : Dev nD) (u : Unit) :
    sendInv x w K c k0_t1_loop.trips u ⊢ iprop((destLoc c ↦[univ]{fullShare} (w c : Buf (Elt F) (destLoc c)))
      ∗ (baseLoc c ↦[univ]{fullShare} (baseF c : Buf (Elt F) (baseLoc c))) ∗ (∃ f : Buf (Elt F) (cntLoc c), cntLoc c ↦[univ]{fullShare} f)
      ∗ cred (tallyAt (ssemCell c) () (1536 * Nrow)) ∗ (∃ W, owes (c : Thread nD τ) (0 : CellTallies nD τ sig Unit) W) : sProp 𝕄) := by
  rw [trips1]
  unfold sendInv
  rw [gone_end hw, Orow_end]
  iintro ⟨_, _, _, Hd, Hb, Hn, _, Hc, HO⟩
  isplitl [Hd]; · iexact Hd
  isplitl [Hb]; · iexact Hb
  isplitl [Hn]; · iexists _; iexact Hn
  isplitl [Hc] <;> iassumption

theorem stay_end (c : Dev nD) (a : BitVec 32) :
    stayInv x w c k0_t2_loop.trips a ⊢ iprop((destLoc c ↦[univ]{fullShare} (w c : Buf (Elt F) (destLoc c)))
      ∗ (baseLoc c ↦[univ]{fullShare} (baseF c : Buf (Elt F) (baseLoc c))) ∗ bigSep (stayDone w c 2048) (stayed x w c) : sProp 𝕄) := by
  rw [trips2]
  unfold stayInv
  iintro ⟨_, Hd, Hb, _, Hs⟩
  isplitl [Hd]; · iexact Hd
  isplitl [Hb] <;> iassumption

theorem trips3_of {v : BitVec 32} (hv : v = 512#32) : (k0_t3_loop v).trips = 1536 := by subst hv; exact trips3

/-- After the drain both rounds of row transfers are over. -/
theorem drain_end (K : GSem nD τ sig → ℕ) (c : Dev nD) {v : BitVec 32} (hv : v = 512#32) (u : Unit) :
    drainInv x w K c (k0_t3_loop v).trips u ⊢ iprop((∃ W, owes (c : Thread nD τ) (0 : CellTallies nD τ sig Unit) W)
      ∗ atPos ER (ssemCell c) 1 ∅ 0 ∗ atPos ER (rsemCell c) 1 ∅ 0
      ∗ (bigSep ((Rd x w).duties (ssemCell c) 0) fun e => (Rd x w).payload (ssemCell c) 0 e)
      ∗ (bigSep ((Rd x w).duties (rsemCell c) 0) fun e => (Rd x w).payload (rsemCell c) 0 e) : sProp 𝕄) := by
  rw [trips3_of hv]
  unfold drainInv drained
  rw [if_neg (lt_irrefl _), if_neg (lt_irrefl _)]
  iintro ⟨_, HO, _, _, ⟨Ha, Hp⟩, Hb, Hq⟩
  isplitl [HO]; · iexact HO
  isplitl [Ha]; · iexact Ha
  isplitl [Hb]; · iexact Hb
  isplitl [Hp] <;> iassumption

variable {w} in
/-- The body as far as its last loop. -/
theorem part10_run (hw : ∀ z, Good (w z)) (K : GSem nD τ sig → ℕ) (c : Dev nD) (W : Waits sig Unit)
    {Q : (Σ' (v2 : BitVec 32) (v296 : Elt F .i32) (k0_hw4 : k0_chk4 v296), BitVec 32) → sProp 𝕄} :
    bodyPre x w K c W ⊢ iprop((∀ v, bodyPost x w c -∗ Q v)
      -∗ wp frame (wpE (defs₀ (F := F)) 𝒱₀ (c : Thread nD τ) none) Set.univ (k0_part10 (F := F) xM (Memref.isWhole_whole _) destM (Memref.isWhole_whole _) cntsM (Memref.isWhole_whole _) outM (Memref.isWhole_whole _)
            cgM (Memref.isWhole_whole _) csmM (Memref.isWhole_whole _) baseM (Memref.isWhole_whole _) cntM (Memref.isWhole_whole _)
            sem8 sem9 sem10 sem11 sem12) Q) := by
  rw [k0_part10_eq_skeleton]
  unfold k0_part10_skel smemLoad bodyPre toks
  simp only [smemLoadElt_bind, Prog.lift, Prog.bind_op, Prog.bind_ret]
  iintro ⟨#Hrec, #Hlev, Hown, Hab, Hao, #Hro, ⟨Htb, Hts, Htr, Htl, HtS, HtR⟩, Hcb, Hcr, HcR, Hx, Hd, Hn, Hout, Hcg, Hcsm, Hbase, Hcnt⟩ Hk
  icases Htb with ⟨Htb1, Htb2, Htb3⟩
  icases Hts with ⟨Hts0, Hts1, Hts2⟩
  icases Htr with ⟨Htr1, Htr2, Htr3⟩
  icases Hcr with ⟨Hcr1, Hcr2, Hcr3⟩
  ihave Hao' := (Entails.of_eq (ten c (fun s => atPos ER (((c : Thread nD τ), s) : GSem nD τ sig) 0 ∅ 0))) $$ Hao
  icases Hao' with ⟨Has0, Has1, Has2, Harc, Har1, Har2, Har3, Hal, HaS, HaR⟩
  ihave Hro' := (Entails.of_eq (ten c (fun s => reached ER (((c : Thread nD τ), s) : GSem nD τ sig) 0))) $$ Hro
  icases Hro' with ⟨#Hrs0, #Hrs1, #Hrs2, #Hrrc, #Hrr1, #Hrr2, #Hrr3, #Hrl, #HrS, #HrR⟩
  icases Hcg with ⟨%fcg, Hcg⟩
  ihave Hcg' := (cg_cut c fcg) $$ Hcg
  icases Hcg' with ⟨Hsl0, Hsl1, Hsl2, Hsl3⟩
  icases Hout with ⟨%fo, Hout⟩
  ihave Hout' := (out_cut3 hw c fo) $$ Hout
  icases Hout' with ⟨Hf0, Hf1, Hf2, Hf3⟩
  rw [wp_bind]
  iapply (part1_run x w K c) $$ [Hown Htb1 Htb2 Hsl1 Hsl2 Hf1 Hf2]
  · isplitr; · iexact Hrec
    isplitl [Hown]; · iexact Hown
    isplitl [Htb1]; · iexact Htb1
    isplitl [Htb2]; · iexact Htb2
    isplitl [Hsl1 Hf1]
    · unfold barPay
      isplitl [Hsl1]; · iexact Hsl1
      isplitl [Hf1]; · iexact Hf1
      isplitr <;> iassumption
    · unfold barPay
      isplitl [Hsl2]; · iexact Hsl2
      isplitl [Hf2]; · iexact Hf2
      isplitr <;> iassumption
  iintro Hown
  dsimp only
  rw [wp_bind]
  iapply (part2_run x w K c _ _ _) $$ [Hown Htb3 Hsl3 Hf3 Hcb Hab Hn]
  · isplitr; · iexact Hrec
    isplitr; · iexact Hlev
    isplitl [Hown]; · iexact Hown
    isplitl [Htb3]; · iexact Htb3
    isplitl [Hsl3 Hf3]
    · unfold barPay
      isplitl [Hsl3]; · iexact Hsl3
      isplitl [Hf3]; · iexact Hf3
      isplitr <;> iassumption
    isplitl [Hcb]; · iexact Hcb
    isplitl [Hab] <;> iassumption
  iintro ⟨Hown, Hab, Hb1, Hb2, Hb3, Hn⟩
  dsimp only
  unfold barPay
  icases Hb1 with ⟨Hsl1, Hf1, #Hq1, #HqR1⟩
  icases Hb2 with ⟨Hsl2, Hf2, #Hq2, #HqR2⟩
  icases Hb3 with ⟨Hsl3, Hf3, #Hq3, #HqR3⟩
  rw [wp_bind]
  iapply (part3_run x w K c _) $$ [Hown Hn Hsl0 Hsl1 Hts0 Htr1]
  · isplitr; · iexact Hrec
    isplitl [Hown]; · iexact Hown
    isplitl [Hn]; · iexact Hn
    isplitl [Hsl0]; · iexact Hsl0
    isplitl [Hsl1]; · iexact Hsl1
    isplitl [Hts0]; · iexact Hts0
    isplitr; · iexact Hrs0
    isplitl [Htr1] <;> iassumption
  iintro %v3 ⟨Hcs0, Hown, Hn, Hp1, Hp2⟩
  obtain ⟨v103, v105⟩ := v3
  dsimp only
  rw [wp_bind]
  iapply (part4_run x w K c _ _ _) $$ [Hown Hp1 Hsl2 Hts1 Htr2]
  · isplitr; · iexact Hrec
    isplitl [Hown]; · iexact Hown
    isplitl [Hp1]; · iexact Hp1
    isplitl [Hsl2]; · iexact Hsl2
    isplitl [Hts1]; · iexact Hts1
    isplitr; · iexact Hrs1
    isplitl [Htr2] <;> iassumption
  iintro ⟨Hcs1, Hown⟩
  rw [wp_bind]
  iapply (part5_run x w K c _) $$ [Hown Hp2 Hsl3 Hts2 Htr3 Hcs0 Has0 Hcr3 Har3]
  · isplitr; · iexact Hrec
    isplitr; · iexact Hlev
    isplitl [Hown]; · iexact Hown
    isplitl [Hp2]; · iexact Hp2
    isplitl [Hsl3]; · iexact Hsl3
    isplitl [Hts2]; · iexact Hts2
    isplitr; · iexact Hrs2
    isplitl [Htr3]; · iexact Htr3
    isplitr; · iexact Hq3
    isplitl [Hcs0]; · iexact Hcs0
    isplitl [Has0]; · iexact Has0
    isplitl [Hcr3] <;> iassumption
  iintro %v5 ⟨Hcs2, Hown, Has0, Hp0, Har3, Hr3⟩
  obtain ⟨v172, v173⟩ := v5
  dsimp only
  rw [wp_bind]
  iapply (part6_run x w K c _ _ _) $$ [Hown Hcs1 Has1 Hcr2 Har2]
  · isplitr; · iexact Hrec
    isplitr; · iexact Hlev
    isplitl [Hown]; · iexact Hown
    isplitl [Hcs1]; · iexact Hcs1
    isplitl [Has1]; · iexact Has1
    isplitl [Hcr2] <;> iassumption
  iintro %v205 ⟨Hown, Has1, Hp1, Har2, Hr2⟩
  icases Hcsm with ⟨%fcsm, Hcsm⟩
  rw [wp_bind]
  iapply (part7_run x w K c _ fcsm) $$ [Hown Hcs2 Has2 Hcr1 Har1 Hp0 Hp1 Hr2 Hr3 Hcsm Htl Hal]
  · isplitr; · iexact Hrec
    isplitr; · iexact Hlev
    isplitl [Hown]; · iexact Hown
    isplitl [Hcs2]; · iexact Hcs2
    isplitl [Has2]; · iexact Has2
    isplitl [Hcr1]; · iexact Hcr1
    isplitl [Har1]; · iexact Har1
    isplitl [Hp0]; · iexact Hp0
    isplitl [Hp1]; · iexact Hp1
    isplitl [Hr2]; · iexact Hr2
    isplitl [Hr3]; · iexact Hr3
    isplitl [Hcsm]; · iexact Hcsm
    isplitl [Htl]; · iexact Htl
    isplitr; · iexact Hrl
    iexact Hal
  iintro ⟨Hown, Has2, Har1, Hal, Hloc⟩
  dsimp only
  unfold clocPay
  icases Hloc with ⟨Hcsm, Hcg⟩
  icases Hbase with ⟨%fb, Hbase⟩
  icases Hcnt with ⟨%fc, Hcnt⟩
  rw [wp_bind]
  iapply (part8_run c fb fc) $$ [Hcsm Hbase Hcnt]
  · isplitl [Hcsm]; · iexact Hcsm
    isplitl [Hbase] <;> iassumption
  iintro ⟨Hcsm, Hbase, Hcnt⟩
  rw [wp_bind]
  iapply (part9_run c _ _) $$ [Hcsm Hbase Hcnt]
  · isplitl [Hcsm]; · iexact Hcsm
    isplitl [Hbase] <;> iassumption
  iintro ⟨Hcsm, Hbase, Hcnt⟩
  dsimp only
  iapply (wp_csm c rfl (by decide) _) $$ Hcsm
  iintro Hcsm
  iapply (wp_csm c rfl (by decide) _) $$ Hcsm
  iintro Hcsm
  iapply (wp_base c (j := 3) rfl _ _) $$ Hbase
  iintro Hbase
  iapply (wp_setBase c (j := 3) rfl _ _ _) $$ Hbase
  iintro Hbase
  iapply (wp_cnt c (j := 3) rfl _ _) $$ Hcnt
  iintro Hcnt
  iapply (wp_setCnt c (j := 3) rfl _ _ _) $$ Hcnt
  iintro Hcnt
  ihave Hbase := (Entails.of_eq (congrArg (fun g : S4.Idx → BitVec 32 => (baseLoc c ↦[univ]{fullShare} (g : Buf (Elt F) (baseLoc c)) : sProp 𝕄))
    (base_table c fb (sum4_eq c)))) $$ Hbase
  ihave Hcnt := (Entails.of_eq (congrArg (fun g : S4.Idx → BitVec 32 => (cntLoc c ↦[univ]{fullShare} (g : Buf (Elt F) (cntLoc c)) : sProp 𝕄))
    (cnt_table (dst w c) fc))) $$ Hcnt
  ihave Hx := (Entails.of_eq (x_rows c (x c))) $$ Hx
  ihave Hx := (Entails.of_eq (bigSep_go_stay w c _)) $$ Hx
  icases Hx with ⟨Hxg, Hxs⟩
  ihave Hgo := (go_rows x w c) $$ [Hxg Hf1 Hf2 Hf3 HtS HtR]
  · isplitl [Hxg]; · iexact Hxg
    isplitl [Hf1 Hf2 Hf3]
    · iapply (rows_join w c)
      isplitl [Hf1]; · iexact Hf1
      isplitl [Hf2] <;> iassumption
    isplitl [HtS] <;> iassumption
  ihave Hst := (stay_rows x w c) $$ [Hxs Hf0]
  · isplitl [Hxs] <;> iassumption
  icases Hst with ⟨Hsg, Hsd⟩
  sl_for (sendInv x w K c) $$ [Hd Hbase Hcnt Hgo Hown]
  · intro t acc; exact send_trip x hw K c t acc
  · unfold sendInv
    isplitr; · iexact Hrec
    isplitr; · iexact HrS
    isplitr
    · rw [bigSep_peers]
      isplitr; · iexact HqR1
      isplitr <;> iassumption
    isplitl [Hd]; · iexact Hd
    isplitl [Hbase]; · iexact Hbase
    isplitl [Hcnt]; · iexact Hcnt
    isplitl [Hgo]; · iexact Hgo
    rw [gone_zero, Nat.zero_mul, tallyAt_zero]
    isplitr
    · rw [cred_zero]; iempintro
    iexact Hown
  iintro %u1 H1
  ihave H1 := (send_end x hw K c u1) $$ H1
  icases H1 with ⟨Hd, Hbase, Hcnt, HcS, Hown⟩
  sl_for (stayInv x w c) $$ [Hd Hbase Hsg Hsd]
  · intro t acc; exact stay_trip x hw c t acc
  · unfold stayInv
    isplitr
    · ipureintro; rw [before_zero]
    isplitl [Hd]; · iexact Hd
    isplitl [Hbase]; · iexact Hbase
    isplitl [Hsg] <;> iassumption
  iintro %u2 H2
  ihave H2 := (stay_end x w c u2) $$ H2
  icases H2 with ⟨Hd, Hbase, Hsd⟩
  iapply (wp_cnts c (j := c) (k0_off14_eq c) _ counts512) $$ Hn
  iintro Hn
  iapply (wp_assume (defs := defs₀ (F := F)) 𝒱₀ (c : Thread nD τ) none Set.univ (k0_chk4_all _))
  sl_for (drainInv x w K c) $$ [Hown HcS HcR HaS HaR]
  · intro t acc
    exact drain_trip x hw K c _ _ t (lt_of_lt_of_eq t.isLt (trips3_of rfl)) acc
  · unfold drainInv
    isplitr; · iexact Hrec
    isplitl [Hown]; · iexact Hown
    isplitl [HcS]; · iexact HcS
    isplitl [HcR]; · iexact HcR
    isplitl [HaS]
    · iapply (drained_zero x w (ssemCell c) (n := 1536) (by decide)); iexact HaS
    · iapply (drained_zero x w (rsemCell c) (n := 1536) (by decide)); iexact HaR
  iintro %u3 H3
  ihave H3 := (drain_end x w K c rfl u3) $$ H3
  icases H3 with ⟨Hown, HaS, HaR, HpS, HpR⟩
  ihave Hxo := (rows_back x hw c) $$ [HpS HpR Hsd]
  · isplitl [HpS]; · iexact HpS
    isplitl [HpR] <;> iassumption
  icases Hxo with ⟨Hx, Ho⟩
  imod (close_bar x K c) $$ [Hab] with Hab
  · isplitr <;> iassumption
  imod (close_o x K c 0) $$ [Has0] with Has0
  · isplitr <;> iassumption
  imod (close_o x K c 1) $$ [Has1] with Has1
  · isplitr <;> iassumption
  imod (close_o x K c 2) $$ [Has2] with Has2
  · isplitr <;> iassumption
  imod (close_self x K c) $$ [Harc] with Harc
  · isplitr <;> iassumption
  imod (close_o x K c (slotIx (c + 1))) $$ [Har1] with Har1
  · isplitr <;> iassumption
  imod (close_o x K c (slotIx (c + 2))) $$ [Har2] with Har2
  · isplitr <;> iassumption
  imod (close_o x K c (slotIx (c + 3))) $$ [Har3] with Har3
  · isplitr <;> iassumption
  imod (close_o x K c 7) $$ [Hal] with Hal
  · isplitr <;> iassumption
  imod (close_o x K c 8) $$ [HaS] with HaS
  · isplitr <;> iassumption
  imod (close_o x K c 9) $$ [HaR] with HaR
  · isplitr <;> iassumption
  unfold part10_run.sl.prog.cont_3
  rw [wp_pure]
  imodintro
  iapply Hk
  unfold bodyPost
  isplitl [Hab]; · iexact Hab
  isplitl [Has0 Has1 Has2 Harc Har1 Har2 Har3 Hal HaS HaR]
  · iapply (Entails.of_eq (ten c (fun s => semVal (((c : Thread nD τ), s) : GSem nD τ sig) 0)).symm)
    isplitl [Has0]; · iexact Has0
    isplitl [Has1]; · iexact Has1
    isplitl [Has2]; · iexact Has2
    isplitl [Harc]; · iexact Harc
    isplitl [Har1]; · iexact Har1
    isplitl [Har2]; · iexact Har2
    isplitl [Har3]; · iexact Har3
    isplitl [Hal]; · iexact Hal
    isplitl [HaS]; · iexact HaS
    iexact HaR
  isplitl [Hx]; · iexact Hx
  isplitl [Hd]; · iexact Hd
  isplitl [Hn]; · iexact Hn
  isplitl [Ho]; · iexact Ho
  isplitl [Hcg]; · iexists _; iexact Hcg
  isplitl [Hcsm]; · iexists _; iexact Hcsm
  isplitl [Hbase]; · iexists _; iexact Hbase
  isplitl [Hcnt]; · iexact Hcnt
  iexact Hown

variable {w} in
/-- The kernel's body on device `c`. -/
theorem body_run (hw : ∀ z, Good (w z)) (K : GSem nD τ sig → ℕ) (c : Dev nD) (W : Waits sig Unit) {Q : PUnit → sProp 𝕄} :
    bodyPre x w K c W ⊢ iprop((bodyPost x w c -∗ Q ⟨⟩)
      -∗ wp frame (wpE (defs₀ (F := F)) 𝒱₀ (c : Thread nD τ) none) Set.univ (cc0_body (F := F) xM (Memref.isWhole_whole _) destM (Memref.isWhole_whole _) cntsM (Memref.isWhole_whole _) outM (Memref.isWhole_whole _)
            cgM (Memref.isWhole_whole _) csmM (Memref.isWhole_whole _) baseM (Memref.isWhole_whole _) cntM (Memref.isWhole_whole _)
            sem8 sem9 sem10 sem11 sem12) Q) := by
  rw [cc0_body_eq_skeleton]
  unfold cc0_body_skel
  iintro H Hk
  rw [wp_bind]
  iapply (part10_run x hw K c W) $$ H
  iintro %v H
  obtain ⟨v2, v296, hw4, v302⟩ := v
  dsimp only
  sl_for (fun _ _ => bodyPost x w c) $$ [H]
  · intro t acc
    exact absurd (lt_of_lt_of_le t.isLt (k0_t4_abs v296).2.1) (Nat.not_lt_zero _)
  · iexact H
  iintro %u H
  unfold body_run.sl.prog.cont_1
  rw [wp_pure]
  imodintro
  iapply Hk
  iexact H

end Cert.KernelIdeal.Own
-- ==== Proof.Region.lean ====
/-
  The kernel's region: what its buffers and arrays hold before and after its one point, and the body
  under the pipeline that stages its operands.
-/
module

public import proofs.«01_k».proof.Proof.Body
public import proofs.«01_k».proof.Proof.Gen.KernelIdeal.Frame
public import Idealize.ShloMosaic.Lib.Pipeline.RegionTalk
public import Idealize.ShloMosaic.Lib.Pipeline.ValueKit.Geometry

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Finset (univ filter)

variable {F : FTy → Type} [FloatOps F]

local notation "𝕄" => MT nD τ sig Unit (Elt F) ℕ UU ℕ

variable (m : (ℓ : Loc nD τ sig) → Buf (Elt F) ℓ)

/-! ## The operands and the result -/

/-- The rows of `x` that device `c` is launched with. -/
abbrev xIn (c : Dev nD) : S2048x1024.Idx → Elt F .f32 := m ((c : Thread nD τ).loc main_arg0)
/-- The destinations that device `c` is launched with. -/
abbrev dIn (c : Dev nD) : S2048.Idx → BitVec 32 := m ((c : Thread nD τ).loc main_arg1)

/-- What device `c`'s result ends with. -/
abbrev res (c : Dev nD) : S2048x1024.Idx → Elt F .f32 := outF (xIn m) (dIn m) c

/-- The unscoped buffers' contents when the region is entered. -/
abbrev V₁ (c : Dev nD) : Valuation τ sig (Elt F) := StableHlo.after hostOps0 (fun b => m (c, b))
/-- The unscoped buffers' contents after the region: the result is there. -/
abbrev V₂ (c : Dev nD) : Valuation τ sig (Elt F) := Function.update (V₁ m c) (Proc.devRef .tc main_v9) (res m c)

/-! ## The pipeline's proof data -/

/-- What the region's body finds besides its staged operands and its scratch. -/
def start (c : Dev nD) : sProp 𝕄 :=
  iprop((∃ K, recs (xIn m) (dIn m) K) ∗ levAts L lv
    ∗ atPos ER (barCell c) 0 ∅ 0 ∗ (bigSep univ fun i : Fin 10 => atPos ER (oCell c i) 0 ∅ 0) ∗ (bigSep univ fun i : Fin 10 => reached ER (oCell c i) 0)
    ∗ toks (dIn m) c
    ∗ cred (tallyAt (barCell c) () 3) ∗ (cred (tallyAt (crecvCell c (c + 1)) () Ncg) ∗ cred (tallyAt (crecvCell c (c + 2)) () Ncg) ∗ cred (tallyAt (crecvCell c (c + 3)) () Ncg))
    ∗ cred (tallyAt (rsemCell c) () (1536 * Nrow)))

/-- The scratch buffers, at some contents. -/
def scratch (c : Dev nD) : sProp 𝕄 :=
  iprop((∃ f : Buf (Elt F) (cgLoc c), cgLoc c ↦{fullShare} f) ∗ (∃ f : Buf (Elt F) (csmLoc c), csmLoc c ↦{fullShare} f)
    ∗ (∃ f : Buf (Elt F) (baseLoc c), baseLoc c ↦{fullShare} f) ∗ (∃ f : Buf (Elt F) (cntLoc c), cntLoc c ↦{fullShare} f))

/-- The region on device `c`: its operands stay, its result becomes `res`, its debts of the launch are paid. -/
def dat0 (c : Dev nD) : Dat τ (Elt F) Unit ℕ UU ℕ cfg0 c where
  A w := V m c (Pipeline.arrRef spec0 w)
  after w _ := match w with
    | ⟨0, _⟩ => xIn m c
    | ⟨1, _⟩ => dIn m c
    | ⟨2, _⟩ => V m c main_v8
    | ⟨3, _⟩ => res m c
  Φ t := match t with
    | ⟨0, _⟩ => iprop(start m c ∗ scratch c ∗ ∃ r, prngReg c r)
    | ⟨_ + 1, _⟩ => iprop(semVal (barCell c) 0 ∗ (bigSep univ fun i : Fin 10 => semVal (oCell c i) 0) ∗ scratch c ∗ ∃ r, prngReg c r)
  q _ := fullShare
  owed t := match t with
    | ⟨0, _⟩ => Obar1 (dIn m) c
    | ⟨_ + 1, _⟩ => 0

/-- The proof data of @main's one pipeline. -/
def pdats (_ : Fin 1) (c : Dev nD) : Dat τ (Elt F) Unit ℕ UU ℕ cfg0 c := dat0 m c

theorem index_0 : ∀ a, (cfg0.win 0).index t0_0 a = 0 := by decide +kernel
theorem index_1 : ∀ a, (cfg0.win 1).index t0_0 a = 0 := by decide +kernel
theorem index_2 : ∀ a, (cfg0.win 2).index t0_0 a = 0 := by decide +kernel

theorem before_0 (c : Dev nD) (d) : (dat0 m c).before 0 t0_0 d = xIn m c := by
  refine ((dat0 m c).before_fetched 0 t0_0 (fetch0_0 _) d).trans ?_
  unfold Dat.fetched Dat.blockOf
  funext i
  show V m c main_arg0 _ = _
  rw [V_main_arg0]
  refine congrArg _ (funext fun a => Fin.ext ?_)
  exact Window.rect_emb_val_of_index_zero _ _ _ (index_0 a) _

theorem before_1 (c : Dev nD) (d) : (dat0 m c).before 1 t0_0 d = dIn m c := by
  refine ((dat0 m c).before_fetched 1 t0_0 (fetch0_1 _) d).trans ?_
  unfold Dat.fetched Dat.blockOf
  funext i
  show V m c main_arg1 _ = _
  rw [V_main_arg1]
  refine congrArg _ (funext fun a => Fin.ext ?_)
  exact Window.rect_emb_val_of_index_zero _ _ _ (index_1 a) _

theorem A_2 (c : Dev nD) : (dat0 m c).A 2 = V m c main_v8 := by dsimp only [dat0, Pipeline.arrRef]
theorem after_2 (c : Dev nD) : (dat0 m c).after 2 t0_0 = V m c main_v8 := by dsimp only [dat0]

theorem before_2 (c : Dev nD) (d) : (dat0 m c).before 2 t0_0 d = V m c main_v8 := by
  refine ((dat0 m c).before_fetched 2 t0_0 (fetch0_2 _) d).trans ?_
  unfold Dat.fetched Dat.blockOf
  rw [A_2]
  generalize V m c main_v8 = G
  funext i
  show G _ = _
  refine congrArg _ (funext fun a => Fin.ext ?_)
  exact Window.rect_emb_val_of_index_zero _ _ _ (index_2 a) _

theorem after_3 (c : Dev nD) : (dat0 m c).after 3 t0_0 = res m c := by dsimp only [dat0]

theorem whole_3 : (cfg0.win 3).WholeAt t0_0 := by decide +kernel

theorem out_end (c : Dev nD) : (dat0 m c).arrAt 3 cfg0.N = res m c := by
  refine (dat0 m c).arrAt_eq_of_after_last 3 t0_0 whole_3 (res m c) (fun j => ?_) (Memref.isWhole_whole _)
  rw [after_3]
  generalize res m c = G
  rfl

/-! ## The body under the pipeline -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem Φ_first (c : Dev nD) : (dat0 m c).Φ t0_0.castSucc = iprop(start m c ∗ scratch c ∗ ∃ r, prngReg c r) := rfl
theorem Φ_last (c : Dev nD) : (dat0 m c).Φ t0_0.succ
    = iprop(semVal (barCell c) 0 ∗ (bigSep univ fun i : Fin 10 => semVal (oCell c i) 0) ∗ scratch c ∗ ∃ r, prngReg c r) := rfl
theorem owed_first (c : Dev nD) : (dat0 m c).owed t0_0.castSucc = Obar1 (dIn m) c := rfl
theorem owed_last (c : Dev nD) : (dat0 m c).owed t0_0.succ = 0 := rfl

/-- The body's obligation: the staged operands taken apart, the body run, the result put back. -/
theorem body_obligation (hw : ∀ z, Good (dIn m z)) (hc : ∀ c, V m c main_v8 = counts512) (c : Dev nD) :
    BodyObligation (dat0 m c) (defs₀ (F := F)) 𝒱₀ () Set.univ := fun t => by
  obtain rfl := fin_N0 t
  rw [bigSep_W0, bigSep_W0, Φ_first, Φ_last]
  unfold Dat.owesAt Pipeline.owesWithin
  rw [owed_first, owed_last]
  simp only [owns_whole_eq]
  unfold start scratch
  iintro ⟨⟨⟨⟨%K, HR⟩, HL, Hb, Ha, Hr, Ht, Hc1, Hc2, Hc3⟩, ⟨H1, H2, H3, H4⟩, Hp⟩, ⟨%W, -, HO⟩, ⟨%d0, %f0, %hf0, X0⟩, ⟨%d1, %f1, %hf1, X1⟩, ⟨%d2, %f2, %hf2, X2⟩, ⟨%d3, %f3, -, X3⟩⟩
  rw [before_0] at hf0
  rw [before_1] at hf1
  rw [before_2, hc] at hf2
  subst hf0 hf1 hf2
  iapply (body_run (xIn m) hw K c W) $$ [HR HL HO Hb Ha Hr Ht Hc1 Hc2 Hc3 H1 H2 H3 H4 X0 X1 X2 X3]
  · unfold bodyPre
    isplitl [HR]; · iexact HR
    isplitl [HL]; · iexact HL
    isplitl [HO]; · iexact HO
    isplitl [Hb]; · iexact Hb
    isplitl [Ha]; · iexact Ha
    isplitl [Hr]; · iexact Hr
    isplitl [Ht]; · iexact Ht
    isplitl [Hc1]; · iexact Hc1
    isplitl [Hc2]; · iexact Hc2
    isplitl [Hc3]; · iexact Hc3
    isplitl [X0]; · iexact X0
    isplitl [X1]; · iexact X1
    isplitl [X2]; · iexact X2
    isplitl [X3]; · iexists f3; iexact X3
    isplitl [H1]; · iexact H1
    isplitl [H2]; · iexact H2
    isplitl [H3]; · iexact H3
    iexact H4
  unfold bodyPost
  iintro ⟨Hb, Ho, X0, X1, X2, X3, H1, H2, H3, H4, %W', HO⟩
  isplitl [Hb Ho H1 H2 H3 H4 Hp]
  · isplitl [Hb]; · iexact Hb
    isplitl [Ho]; · iexact Ho
    isplitl [H1 H2 H3 H4]
    · isplitl [H1]; · iexact H1
      isplitl [H2]; · iexact H2
      isplitl [H3]; · iexact H3
      iexact H4
    iexact Hp
  isplitl [HO]
  · iexists W'
    isplitr; · ipureintro; exact fun _ _ => Or.inl trivial
    iexact HO
  isplitl [X0]
  · iexists _; isplitr; swap; (· iexact X0); ipureintro; rfl
  isplitl [X1]
  · iexists _; isplitr; swap; (· iexact X1); ipureintro; rfl
  isplitl [X2]
  · iexists _; isplitr; swap; (· iexact X2); ipureintro; exact ((after_2 m c).trans (hc c)).symm
  iexists _; isplitr; swap; (· iexact X3); ipureintro; exact (after_3 m c).symm

end Cert.KernelIdeal.Own

end
-- ==== Proof.Deal.lean ====
/-
  What the launch deals out: the tokens of every device's duties, and the units every device will wait for.
-/
module

public import proofs.«01_k».proof.Proof.Cuts

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Finset (univ filter)

variable {F : FTy → Type} [FloatOps F]

local notation "𝕄" => MT nD τ sig Unit (Elt F) ℕ UU ℕ

variable (w : Dev nD → S2048.Idx → BitVec 32)

/-! ## The tokens -/

/-- The cells that device `c` signals once. -/
def tokCell (c : Dev nD) : Fin 10 → GSem nD τ sig
  | 0 => barCell (c + 1)
  | 1 => barCell (c + 2)
  | 2 => barCell (c + 3)
  | 3 => csendCell c 0
  | 4 => csendCell c 1
  | 5 => csendCell c 2
  | 6 => crecvCell (c + 1) c
  | 7 => crecvCell (c + 2) c
  | 8 => crecvCell (c + 3) c
  | 9 => clocCell c

theorem tokCell_inj : ∀ c, Function.Injective (tokCell c) := by decide

theorem tokCell_sem : ∀ c i, (tokCell c i).2 ≠ ssemS ∧ (tokCell c i).2 ≠ rsemS := by decide

/-- The duties of device `c` carried out once, -/
def onceToks (c : Dev nD) : Finset (GSem nD τ sig × ℕ × Duty) :=
  univ.map ⟨fun i => (tokCell c i, 0, (c, 0)), fun _ _ h => tokCell_inj c (Prod.mk.inj h).1⟩
/-- the ends of its rows' sends, -/
def leftToks (c : Dev nD) : Finset (GSem nD τ sig × ℕ × Duty) :=
  (goSet w c 0).map ⟨fun r => (ssemCell c, 0, (c, r)), fun _ _ h => (Prod.mk.inj (Prod.mk.inj (Prod.mk.inj h).2).2).2⟩
/-- and their arrivals. -/
def cameToks (c : Dev nD) : Finset (GSem nD τ sig × ℕ × Duty) :=
  (goSet w c 0).map ⟨fun r => (rsemCell (dst w c r), 0, (c, r)), fun _ _ h => (Prod.mk.inj (Prod.mk.inj (Prod.mk.inj h).2).2).2⟩

/-- All duties of device `c`. -/
def toksOf (c : Dev nD) : Finset (GSem nD τ sig × ℕ × Duty) := onceToks c ∪ (leftToks w c ∪ cameToks w c)
/-- All duties of all devices. -/
def allToks : Finset (GSem nD τ sig × ℕ × Duty) := univ.biUnion (toksOf w)

theorem toksOf_dev (c : Dev nD) (t : GSem nD τ sig × ℕ × Duty) (h : t ∈ toksOf w c) : t.2.2.1 = c := by
  unfold toksOf onceToks leftToks cameToks at h
  simp only [Finset.mem_union, Finset.mem_map, Function.Embedding.coeFn_mk] at h
  rcases h with ⟨_, _, rfl⟩ | ⟨_, _, rfl⟩ | ⟨_, _, rfl⟩ <;> rfl

theorem disjoint_left_came (c : Dev nD) : Disjoint (leftToks w c) (cameToks w c) := by
  rw [Finset.disjoint_left]
  intro t h1 h2
  obtain ⟨_, _, rfl⟩ := Finset.mem_map.mp h1
  obtain ⟨_, _, h⟩ := Finset.mem_map.mp h2
  have h3 : rsemS = ssemS := congrArg (fun t : GSem nD τ sig × ℕ × Duty => t.1.2) h
  exact absurd h3 (by decide)

theorem disjoint_once (c : Dev nD) : Disjoint (onceToks c) (leftToks w c ∪ cameToks w c) := by
  rw [Finset.disjoint_left]
  intro t h1 h2
  obtain ⟨i, _, rfl⟩ := Finset.mem_map.mp h1
  rcases Finset.mem_union.mp h2 with h2 | h2
  · obtain ⟨_, _, h⟩ := Finset.mem_map.mp h2
    have h3 : ssemS = (tokCell c i).2 := congrArg (fun t : GSem nD τ sig × ℕ × Duty => t.1.2) h
    exact (tokCell_sem c i).1 h3.symm
  · obtain ⟨_, _, h⟩ := Finset.mem_map.mp h2
    have h3 : rsemS = (tokCell c i).2 := congrArg (fun t : GSem nD τ sig × ℕ × Duty => t.1.2) h
    exact (tokCell_sem c i).2 h3.symm

/-- One device's tokens, named. -/
theorem toks_of (c : Dev nD) : (bigSep (toksOf w c) fun t => (dutyTok ER t.1 t.2.1 t.2.2 : sProp 𝕄)) ⊢ toks w c := by
  unfold toksOf
  rw [bigSep_union (disjoint_once w c), bigSep_union (disjoint_left_came w c)]
  unfold onceToks leftToks cameToks
  rw [bigSep_map, bigSep_map, bigSep_map,
    bigSep_univ_eq_bigSepL [(0 : Fin 10), 1, 2, 3, 4, 5, 6, 7, 8, 9] (by decide) (by decide)]
  let T := fun i : Fin 10 => (dutyTok ER (tokCell c i) 0 (c, 0) : sProp 𝕄)
  show iprop((T 0 ∗ T 1 ∗ T 2 ∗ T 3 ∗ T 4 ∗ T 5 ∗ T 6 ∗ T 7 ∗ T 8 ∗ T 9)
    ∗ (bigSep (goSet w c 0) fun r => dutyTok ER (ssemCell c) 0 (c, r)) ∗ bigSep (goSet w c 0) fun r => dutyTok ER (rsemCell (dst w c r)) 0 (c, r)) ⊢ _
  unfold toks
  iintro ⟨⟨H0, H1, H2, H3, H4, H5, H6, H7, H8, H9⟩, Hs, Hr⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6 H7 H8]
  · isplitl [H6]; · iexact H6
    isplitl [H7]; · iexact H7
    iexact H8
  isplitl [H9]; · iexact H9
  isplitl [Hs]; · iexact Hs
  iexact Hr

/-- All tokens, to the devices whose duties they are. -/
theorem deal_toks : (bigSep (allToks w) fun t => (dutyTok ER t.1 t.2.1 t.2.2 : sProp 𝕄)) ⊢ bigSep univ fun c : Dev nD => toks w c := by
  unfold allToks
  rw [bigSep_biUnion_eq univ (toksOf w) _ fun a _ b _ hab => Finset.disjoint_left.mpr fun t h1 h2 =>
    hab ((toksOf_dev w a t h1).symm.trans (toksOf_dev w b t h2))]
  exact bigSep_mono fun c _ => toks_of w c

/-! ## The units -/

/-- What device `d` owes a cell at launch, summand by summand. -/
theorem owed_eval (d : Dev nD) (g : GSem nD τ sig) : Obar1 w d g () =
    Orow w d 0 g () + (if g = crecvCell (d + 3) d then Ncg else 0) + (if g = crecvCell (d + 2) d then Ncg else 0)
      + (if g = crecvCell (d + 1) d then Ncg else 0)
      + (if g = barCell (d + 3) then 1 else 0) + (if g = barCell (d + 2) then 1 else 0) + (if g = barCell (d + 1) then 1 else 0) := by
  unfold Obar1 Obar2 Obar3 Ocg1 Ocg2 Ocg3
  simp only [Pi.add_apply, Finsupp.add_apply, tallyAt_apply, and_true]

theorem row_eval (d : Dev nD) (g : GSem nD τ sig) : Orow w d 0 g () =
    ∑ r ∈ goSet w d 0, if g = rsemCell (dst w d r) then Nrow else 0 := by
  unfold Orow
  rw [Finset.sum_apply, Finsupp.finset_sum_apply]
  refine Finset.sum_congr rfl fun r _ => ?_
  rw [tallyAt_apply]
  simp only [and_true]

theorem row_other (d : Dev nD) (g : GSem nD τ sig) (h : g.2 ≠ rsemS) : Orow w d 0 g () = 0 := by
  rw [row_eval]
  exact Finset.sum_eq_zero fun r _ => if_neg fun e => h (congrArg Prod.snd e)

theorem bar_ne_rsem : (SemLoc.reg barS : SemLoc sig) ≠ rsemS := by decide
theorem bar_ne_cg : ∀ c d k : Dev nD, barCell c ≠ crecvCell (d + k) d := by decide
theorem cg_ne_bar : ∀ c d s : Dev nD, crecvCell c s ≠ barCell d := by decide
theorem rsem_ne : ∀ c d s : Dev nD, rsemCell c ≠ crecvCell d s ∧ rsemCell c ≠ barCell d := by decide
theorem cg_eq : ∀ c d i k : Dev nD, crecvCell c (c + i) = crecvCell (d + k) d ↔ d = c + i ∧ i + k = 0 := by decide
theorem bar_sum : ∀ c : Dev nD, (∑ d : Dev nD,
    ((if barCell c = barCell (d + 3) then 1 else 0) + (if barCell c = barCell (d + 2) then 1 else 0) + (if barCell c = barCell (d + 1) then 1 else 0))) = 3 := by
  decide

/-- A device's barrier is owed three units, -/
theorem bar_owed (c : Dev nD) : (∑ d : Dev nD, Obar1 w d (barCell c) ()) = 3 := by
  rw [← bar_sum c]
  refine Finset.sum_congr rfl fun d _ => ?_
  rw [owed_eval, row_other w d _ (show (barCell c).2 ≠ rsemS from bar_ne_rsem), if_neg (bar_ne_cg c d 3), if_neg (bar_ne_cg c d 2), if_neg (bar_ne_cg c d 1)]
  omega

/-- each of its slots for another device's counts one transfer, -/
theorem cg_owed (c i : Dev nD) (hi : i = 1 ∨ i = 2 ∨ i = 3) : (∑ d : Dev nD, Obar1 w d (crecvCell c (c + i)) ()) = Ncg := by
  have h : ∀ d : Dev nD, Obar1 w d (crecvCell c (c + i)) () = if d = c + i then Ncg else 0 := by
    intro d
    rw [owed_eval, row_other w d _ (by revert c i; decide), if_neg (cg_ne_bar c _ _), if_neg (cg_ne_bar c _ _), if_neg (cg_ne_bar c _ _)]
    simp only [cg_eq]
    by_cases hd : d = c + i
    · rcases hi with rfl | rfl | rfl
      · simp only [hd, true_and]; rfl
      · simp only [hd, true_and]; rfl
      · simp only [hd, true_and]; rfl
    · simp only [hd, false_and, if_false]
  rw [Finset.sum_congr rfl fun d _ => h d, Finset.sum_ite_eq' univ (c + i) fun _ => Ncg, if_pos (Finset.mem_univ _)]

variable {w} in
/-- and its result every row that arrives. -/
theorem row_owed (hw : ∀ z, Good (w z)) (c : Dev nD) : (∑ d : Dev nD, Obar1 w d (rsemCell c) ()) = 1536 * Nrow := by
  have h : ∀ d : Dev nD, Obar1 w d (rsemCell c) () = ∑ r : Fin 2048, if d ≠ c ∧ dst w d r = c then Nrow else 0 := by
    intro d
    rw [owed_eval, row_eval]
    simp only [if_neg (rsem_ne c _ _).1, if_neg (rsem_ne c _ c).2, add_zero]
    rw [goSet, Finset.sum_filter]
    refine Finset.sum_congr rfl fun r _ => ?_
    have e : (rsemCell c = rsemCell (dst w d r)) ↔ dst w d r = c := by
      constructor
      · intro h; exact (congrArg (fun g : GSem nD τ sig => g.1.1) h).symm
      · intro h; rw [h]
    by_cases h1 : dst w d r = c
    · by_cases h2 : d = c
      · rw [if_neg (fun hh => hh.2 (h1.trans h2.symm)), if_neg (fun hh => hh.1 h2)]
      · rw [if_pos ⟨Nat.zero_le _, fun hh => h2 (hh.symm.trans h1)⟩, if_pos (e.mpr h1), if_pos ⟨h2, h1⟩]
    · rw [if_neg (c := d ≠ c ∧ dst w d r = c) (fun hh => h1 hh.2)]
      by_cases h3 : 0 ≤ r.val ∧ dst w d r ≠ d
      · rw [if_pos h3, if_neg (fun hh => h1 (e.mp hh))]
      · rw [if_neg h3]
  rw [Finset.sum_congr rfl fun d _ => h d, ← card_comeD hw c, comeD, ← smul_eq_mul, ← Finset.sum_const, Finset.sum_filter,
    Fintype.sum_prod_type]

theorem credit_of (c : Dev nD) (s : SemLoc sig) (n : ℕ) (h : (∑ d : Dev nD, Obar1 w d ((c : Thread nD τ), s) ()) = n) :
    tallyOn ((c : Thread nD τ), s) (launchCredit (Pipeline.owing (Obar1 w)) 0 ((c : Thread nD τ), s))
      = (tallyAt ((c : Thread nD τ), s) () n : CellTallies nD τ sig Unit) := by
  unfold tallyAt
  refine congrArg _ (Finsupp.ext fun u => ?_)
  cases u
  rw [Pipeline.launchCredit_owing, Finsupp.single_eq_same, h]

/-- The cells that a device is owed units on, each once. -/
theorem five_ne : ∀ c : Dev nD, SemLoc.reg barS ∉ ({crecvS (c + 1), crecvS (c + 2), crecvS (c + 3), rsemS} : Finset (SemLoc sig))
    ∧ crecvS (c + 1) ∉ ({crecvS (c + 2), crecvS (c + 3), rsemS} : Finset (SemLoc sig))
    ∧ crecvS (c + 2) ∉ ({crecvS (c + 3), rsemS} : Finset (SemLoc sig)) ∧ crecvS (c + 3) ∉ ({rsemS} : Finset (SemLoc sig)) := by decide

variable {w} in
/-- The units dealt to device `c` at launch. -/
theorem deal_creds (hw : ∀ z, Good (w z)) (c : Dev nD) :
    (Pipeline.launchCred (Obar1 w) c : sProp 𝕄)
      ⊢ iprop(cred (tallyAt (barCell c) () 3) ∗ (cred (tallyAt (crecvCell c (c + 1)) () Ncg) ∗ cred (tallyAt (crecvCell c (c + 2)) () Ncg) ∗ cred (tallyAt (crecvCell c (c + 3)) () Ncg))
        ∗ cred (tallyAt (rsemCell c) () (1536 * Nrow))) := by
  obtain ⟨h0, h1, h2, h3⟩ := five_ne c
  unfold Pipeline.launchCred
  refine (bigSep_subset (Finset.subset_univ {SemLoc.reg barS, crecvS (c + 1), crecvS (c + 2), crecvS (c + 3), rsemS})).trans ?_
  rw [bigSep_insert h0, bigSep_insert h1, bigSep_insert h2, bigSep_insert h3, bigSep_singleton,
    credit_of w c _ 3 (bar_owed w c), credit_of w c _ _ (cg_owed w c 1 (Or.inl rfl)), credit_of w c _ _ (cg_owed w c 2 (Or.inr (Or.inl rfl))),
    credit_of w c _ _ (cg_owed w c 3 (Or.inr (Or.inr rfl))), credit_of w c _ _ (row_owed hw c)]
  refine Entails.trans (Q := iprop(cred (tallyAt (barCell c) () 3) ∗ cred (tallyAt (crecvCell c (c + 1)) () Ncg) ∗ cred (tallyAt (crecvCell c (c + 2)) () Ncg)
    ∗ cred (tallyAt (crecvCell c (c + 3)) () Ncg) ∗ cred (tallyAt (rsemCell c) () (1536 * Nrow)))) .rfl ?_
  iintro ⟨H0, H1, H2, H3, H4⟩
  isplitl [H0]; · iexact H0
  isplitl [H1 H2 H3]
  · isplitl [H1]; · iexact H1
    isplitl [H2]; · iexact H2
    iexact H3
  iexact H4

end Cert.KernelIdeal.Own

end
-- ==== Proof.Launch.lean ====
/-
  The program's run: the host operations, then the region, from launch to end on all four devices.
-/
module

public import proofs.«01_k».proof.Proof.Region
public import proofs.«01_k».proof.Proof.Deal

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Finset (univ filter)

variable {F : FTy → Type} [FloatOps F]

local notation "𝕄" => MT nD τ sig Unit (Elt F) ℕ UU ℕ

variable (m : (ℓ : Loc nD τ sig) → Buf (Elt F) ℓ) (ρ : Dev nD → PrngReg)

/-! ## The region between the host operations and the end -/

/-- The contents of the one pipeline's tables: it has none. -/
abbrev adm : (p : Fin 1) → (pcfgs (F := F) p).Adm := fun p => (cfgs p).toPCfg_adm

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

omit [FloatOps F] in
/-- Two families as one family of pairs, -/
theorem both_in {α : Type} [Fintype α] {Φ Ψ : α → sProp 𝕄} :
    iprop(bigSep univ Φ ∗ bigSep univ Ψ) ⊢ bigSep univ fun i => iprop(Φ i ∗ Ψ i) := by rw [bigSep_sep']
omit [FloatOps F] in
/-- and back. -/
theorem both_out {α : Type} [Fintype α] {Φ Ψ : α → sProp 𝕄} :
    (bigSep univ fun i => iprop(Φ i ∗ Ψ i)) ⊢ iprop(bigSep univ Φ ∗ bigSep univ Ψ) := by rw [bigSep_sep']

/-- The units that a device will wait for. -/
def units (c : Dev nD) : sProp 𝕄 :=
  iprop(cred (tallyAt (barCell c) () 3) ∗ (cred (tallyAt (crecvCell c (c + 1)) () Ncg) ∗ cred (tallyAt (crecvCell c (c + 2)) () Ncg) ∗ cred (tallyAt (crecvCell c (c + 3)) () Ncg))
    ∗ cred (tallyAt (rsemCell c) () (1536 * Nrow)))

/-- What the launch keeps for device `c`'s region. -/
def kept (c : Dev nD) : sProp 𝕄 :=
  iprop((∃ K, recs (xIn m) (dIn m) K) ∗ atPos ER (barCell c) 0 ∅ 0 ∗ (bigSep univ fun i : Fin 10 => openTok ER (oCell c i))
    ∗ toks (dIn m) c ∗ units c)

/-- The region opens: its ten cells, with their counters at zero. -/
theorem region_opens (c : Dev nD) :
    iprop(kept m c ∗ Pipeline.ownSems0 osem c ∗ levAts L lv) ⊢ iprop(|={Set.univ}=> start m c : sProp 𝕄) := by
  have h (K : GSem nD τ sig → ℕ) :
      iprop(recs (xIn m) (dIn m) K ∗ bigSep univ fun i : Fin 10 => iprop(openTok ER (oCell c i) ∗ semVal (oCell c i) 0))
        ⊢ (bigSep univ fun i : Fin 10 => iprop(|={Set.univ}=> (atPos ER (oCell c i) 0 ∅ 0 ∗ reached ER (oCell c i) 0)) : sProp 𝕄) :=
    bigSep_with_persistent fun i _ => (sep_mono_left (inv_o (xIn m) (dIn m) K c i)).trans
      (cell_open ER (Rd (xIn m) (dIn m)) (g := oCell c i) (Set.mem_univ _))
  unfold kept units Pipeline.ownSems0 start
  iintro ⟨⟨⟨%K, #HR⟩, Hb, Ho, Ht, Hc1, Hc2, Hc3⟩, Hs, HL⟩
  ihave Hos := both_in $$ [Ho Hs]
  · isplitl [Ho]; · iexact Ho
    iexact Hs
  ihave Hf := (h K) $$ [Hos]
  · isplitr; · iexact HR
    iexact Hos
  ihave Hf := (bigSep_fupd _ _) $$ Hf
  imod Hf with Hf
  ihave Hf := both_out $$ Hf
  icases Hf with ⟨Ha, Hr⟩
  imodintro
  isplitr; · iexists K; iexact HR
  isplitl [HL]; · iexact HL
  isplitl [Hb]; · iexact Hb
  isplitl [Ha]; · iexact Ha
  isplitl [Hr]; · iexact Hr
  isplitl [Ht]; · iexact Ht
  isplitl [Hc1]; · iexact Hc1
  isplitl [Hc2]; · iexact Hc2
  iexact Hc3

/-- The unscoped buffers that the region does not stage. -/
abbrev restRefs : Finset (DevRef τ sig) := Pipeline.ucRefs τ sig \ Pipeline.arrRefs (τ := τ) spec0

theorem V₂_rest (c : Dev nD) (b : DevRef τ sig) (hb : b ∈ restRefs) : V₂ m c b = V₁ m c b := by
  refine Function.update_of_ne (fun e => (Finset.mem_sdiff.mp hb).2 ?_) ..
  rw [e]
  exact Finset.mem_map_of_mem _ (Finset.mem_image.mpr ⟨3, Finset.mem_univ _, rfl⟩)

theorem V₂_of_ne (c : Dev nD) (b : Ref sig .tc) (h : b ≠ main_v9) : V₂ m c b = V₁ m c b :=
  Function.update_of_ne (fun e => h (Proc.devRef_injective _ e)) ..
theorem V₂_v9 (c : Dev nD) : V₂ m c main_v9 = res m c := Function.update_self ..

theorem arr_out (c : Dev nD) (w : Fin 4) : (dat0 m c).arrAt w cfg0.N = V₂ m c (Pipeline.arrRef spec0 w) := by
  match w with
  | ⟨0, _⟩ => exact ((dat0 m c).arrAt_in 0 rfl _).trans (V₂_of_ne m c main_arg0 (by decide)).symm
  | ⟨1, _⟩ => exact ((dat0 m c).arrAt_in 1 rfl _).trans (V₂_of_ne m c main_arg1 (by decide)).symm
  | ⟨2, _⟩ => exact ((dat0 m c).arrAt_in 2 rfl _).trans ((A_2 m c).trans (V₂_of_ne m c main_v8 (by decide)).symm)
  | ⟨3, _⟩ => exact (out_end m c).trans (V₂_v9 m c).symm

theorem own_debts (c : Dev nD) (t : Fin (cfg0.N + 1)) (g : GSem nD τ sig) (u : Unit) (h : 0 < (dat0 m c).owed t g u) : u ∈ L g ∧ 0 < lv g u := by
  match t with
  | ⟨0, _⟩ => exact above_Obar1 (dIn m) c g u h
  | ⟨_ + 1, _⟩ => exact absurd h (Nat.lt_irrefl 0)

theorem stage_low : ∀ (c : Dev nD) (w : Fin 4) (s : Fin (spec0 w).nbuf), lv ((c : Thread nD τ), .dma ((spec0 w).sem s)) () ≤ 0 := by decide

variable {m} in
set_option backward.isDefEq.respectTransparency.types false in
/-- The region as a segment of the program. -/
def reg0 (hw : ∀ z, Good (dIn m z)) (hc : ∀ c, V m c main_v8 = counts512) : ℝ𝕊 0 :=
  Pipeline.RegionSeg.ofTalk (pcfgs (F := F)) adm (pdats m) () defs₀ 𝒱₀ L lv 0 osem (by decide : Pipeline.OwnSemFacts spec0 osem)
    ∅ restRefs (Finset.empty_subset _) launch0.toP rfl (fun c => (body_obligation m hw hc c).loose)
    (fun _ => 0) (Obar1 (dIn m)) (fun c => (show (dat0 m c).owed 0 = _ from rfl).trans (zero_add _).symm) (fun c => rfl) (fun _ => rfl)
    (fun c w => (pdats m 0 c).share_full (fun _ => rfl) w)
    (V₁ m) (V₂ m) (fun c b hb => V₂_rest m c b (Finset.mem_sdiff.mp hb).1)
    (kept m) (fun c => semVal (barCell c) 0) (start m) (fun c => semVal (barCell c) 0)
    (region_opens m)
    (fun c => by
      rw [show (pdats m 0 c).Φ 0 = iprop(start m c ∗ scratch c ∗ ∃ r, prngReg c r) from rfl]
      show iprop(Pipeline.scopedRest spec0 c ∗ _) ⊢ _
      rw [scopedRest0_eq]
      unfold scratch
      iintro ⟨Hs, Hp, -, HX⟩
      isplitl [HX]; · iexact HX
      isplitl [Hs]; · iexact Hs
      iexact Hp)
    (fun c => by
      rw [show (pdats m 0 c).Φ (Fin.last _) = iprop(semVal (barCell c) 0 ∗ (bigSep univ fun i : Fin 10 => semVal (oCell c i) 0) ∗ scratch c ∗ ∃ r, prngReg c r) from rfl]
      show _ ⊢ iprop(Pipeline.scopedRest spec0 c ∗ _)
      rw [scopedRest0_eq]
      unfold scratch StableHlo.held Pipeline.ownSems0
      rw [BI.bigSep_empty]
      iintro ⟨Hb, Ho, Hs, Hp⟩
      isplitl [Hs]; · iexact Hs
      isplitl [Hp]; · iexact Hp
      isplitr; · iempintro
      isplitl [Ho]; · iexact Ho
      iexact Hb)
    (fun c => by iintro H; imodintro; iexact H)
    (fun _ => 0)
    ⟨fun c w s => by rw [L_tc]; exact Finset.mem_singleton_self _, fun c w s => stage_low c w s, fun c t g i h => own_debts m c t g i h⟩
    (fun _ => iprop(emp))
    (fun c w => rfl) (fun c w => arr_out m c w)

/-- What rides along with the buffers up to the region. -/
def riding (c : Dev nD) : sProp 𝕄 :=
  iprop(kept m c ∗ (∃ r, prngReg c r) ∗ ∃ W, owes (c : Thread nD τ) (Obar1 (dIn m) c) W)

/-- The unscoped buffers' contents at launch. -/
abbrev V₀ (c : Dev nD) : Valuation τ sig (Elt F) := fun b => m (c, b)

/-- The host operations before the region. -/
def seg0 : ℍ := Pipeline.HostSeg.ofOps _ _ _ _ _ (Pipeline.ucRefs τ sig) hostOps0
  (fun op h => Pipeline.sub_ucRefs op (List.forall_iff_forall_mem.mp hostOps0_sub op h))
  (List.forall_iff_forall_mem.mp hostOps0_fresh) (V₀ m) (riding m)

theorem arr_sub : Pipeline.arrRefs (τ := τ) spec0 ⊆ Pipeline.ucRefs τ sig :=
  Pipeline.arrRefs_sub_ucRefs spec0 (by decide)

section Run

variable {m}
variable (hw : ∀ z, Good (dIn m z)) (hc : ∀ c, V m c main_v8 = counts512)

theorem reg0_pre (c : Dev nD) :
    iprop(StableHlo.held (c : Thread nD τ) (Pipeline.ucRefs τ sig) (V₁ m c) ∗ riding m c) ⊢ (reg0 hw hc).pre c := by
  show _ ⊢ iprop(StableHlo.held (c.tc : Thread nD τ) (Pipeline.arrRefs (τ := τ) spec0) (V₁ m c) ∗ (∃ r, prngReg c r)
    ∗ (StableHlo.held (c.tc : Thread nD τ) restRefs (V₁ m c) ∗ emp) ∗ kept m c ∗ ∃ Wd, owes (c : Thread nD τ) (0 + Obar1 (dIn m) c) Wd)
  rw [StableHlo.held_sub_split _ arr_sub, zero_add]
  unfold riding
  iintro ⟨⟨Ha, Hr⟩, HK, Hp, HO⟩
  isplitl [Ha]; · iexact Ha
  isplitl [Hp]; · iexact Hp
  isplitl [Hr]
  · isplitl [Hr]; · iexact Hr
    iempintro
  isplitl [HK]; · iexact HK
  iexact HO

/-- What a device ends with. -/
abbrev ends (c : Dev nD) : sProp 𝕄 := iprop(StableHlo.held (c : Thread nD τ) (Pipeline.arrRefs (τ := τ) spec0) (V₂ m c) ∗ semVal (barCell c) 0)

theorem reg0_post (c : Dev nD) :
    (reg0 hw hc).post c ⊢ iprop(ends (m := m) c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) restRefs (V₂ m c) ∗ emp) ∗ semVal (barCell c) 0 ∗ ∃ Wd, owes (c : Thread nD τ) (0 : CellTallies nD τ sig Unit) Wd) ⊢ _
  iintro ⟨Ha, -, -, Hb, HO⟩
  isplitl [Ha Hb]
  · isplitl [Ha]; · iexact Ha
    iexact Hb
  iexact HO

/-- The program in segments. -/
def segs : List (Pipeline.Seg (pcfgs (F := F)) adm (pdats m) () defs₀ 𝒱₀ L lv) := [.host (seg0 m), .region (reg0 hw hc)]

theorem main_eq (c : Dev nD) : main (F := F) c = Pipeline.Seg.run (segs hw hc) :=
  main_segs adm (pdats m) () 𝒱₀ L lv (seg0 m) (reg0 hw hc) rfl c

/-! ## The launch -/

omit [FloatOps F] in
theorem unscopedSems0_eq (c : Dev nD) : (unscopedSems0 c : sProp 𝕄) = semVal (barCell c) 0 := by
  unfold unscopedSems0
  rw [show (univ.filter fun sm : SemLoc sig => ¬ sm.isScoped .tc) = {SemLoc.reg barS} from by decide, BI.bigSep_singleton]

theorem unscoped_eq : ∀ sm : SemLoc sig, sm.isScoped .tc = false → sm = .reg barS := by decide

theorem osem_ne_bar : ∀ i, osem i ≠ SemLoc.reg barS := by decide

theorem disjoint_cells : Disjoint barCells scCells := by
  rw [Finset.disjoint_left]
  intro g h₁ h₂
  obtain ⟨c, -, rfl⟩ := Finset.mem_map.mp h₁
  obtain ⟨ci, -, h⟩ := Finset.mem_map.mp h₂
  exact osem_ne_bar ci.2 (congrArg Prod.snd h)

/-- The launch element: the pipeline's, and the protocol's. -/
def u₀ (w : Dev nD → S2048.Idx → BitVec 32) : UU :=
  (initOf (Pipeline.cells (Pipeline.pin (pcfgs (F := F)) adm) cellOf_inj) (Pipeline.launchToks (Pipeline.pin (pcfgs (F := F)) adm) cellOf_inj),
    launchOf barCells scCells (allToks w))

/-- The protocol's launch element, whole on device 0. -/
def G (w : Dev nD → S2048.Idx → BitVec 32) (c : Dev nD) : sProp 𝕄 :=
  if c = 0 then BI.own (ER (launchOf barCells scCells (allToks w))) else iprop(emp)

omit [FloatOps F] in
theorem G_all (w : Dev nD → S2048.Idx → BitVec 32) :
    (bigSep univ (G (F := F) w) : sProp 𝕄) = BI.own (ER (launchOf barCells scCells (allToks w))) := by
  have h : ∀ c ∈ (univ : Finset (Dev nD)).erase 0, G (F := F) w c = (BI.emp : sProp 𝕄) := fun c hc => if_neg (Finset.ne_of_mem_erase hc)
  rw [bigSep_univ_at _ (0 : Dev nD), bigSep_congr h, BI.bigSep_emp_const, show G (F := F) w 0 = _ from if_pos rfl]
  exact BI.equiv_iff.mp sep_emp

/-- What a device starts the program with. -/
abbrev starts (m : (ℓ : Loc nD τ sig) → Buf (Elt F) ℓ) (c : Dev nD) : sProp 𝕄 :=
  iprop(StableHlo.held (c : Thread nD τ) (Pipeline.ucRefs τ sig) (V₀ m c) ∗ riding m c)

/-- What the launch gives a device that is not the protocol's. -/
def plain (m : (ℓ : Loc nD τ sig) → Buf (Elt F) ℓ) (c : Dev nD) : sProp 𝕄 :=
  iprop(StableHlo.held (c : Thread nD τ) (Pipeline.ucRefs τ sig) (V₀ m c) ∗ units c ∗ owes (c : Thread nD τ) (Obar1 (dIn m) c) ∅ ∗ ∃ r, prngReg c r)

/-- What the protocol gives a device. -/
def own (m : (ℓ : Loc nD τ sig) → Buf (Elt F) ℓ) (c : Dev nD) : sProp 𝕄 :=
  iprop(atPos ER (barCell c) 0 ∅ 0 ∗ (bigSep univ fun i : Fin 10 => openTok ER (oCell c i)) ∗ toks (dIn m) c)

theorem starts_intro (K : GSem nD τ sig → ℕ) (c : Dev nD) :
    iprop(recs (xIn m) (dIn m) K ∗ (own m c ∗ plain m c)) ⊢ starts m c := by
  unfold own plain starts riding kept
  iintro ⟨HR, ⟨Hb, Ho, Ht⟩, Hh, Hu, HO, Hp⟩
  isplitl [Hh]; · iexact Hh
  isplitl [HR Hb Ho Ht Hu]
  · isplitl [HR]; · iexists K; iexact HR
    isplitl [Hb]; · iexact Hb
    isplitl [Ho]; · iexact Ho
    isplitl [Ht]; · iexact Ht
    iexact Hu
  isplitl [Hp]; · iexact Hp
  iexists ∅; iexact HO

include hw in
/-- The launch: every cell under its invariant, and everything dealt. -/
theorem init :
    iprop((bigSep univ fun c : Dev nD => iprop(unscopedBufs c (fun b => m ((c : Thread nD τ).loc b)) ∗ unscopedSems0 c
          ∗ owes (c : Thread nD τ) (Obar1 (dIn m) c) ∅ ∗ Pipeline.launchCred (Obar1 (dIn m)) c ∗ prngReg c (ρ c) ∗ G (dIn m) c)) ∗ levAts L lv)
      ⊢ (|={Set.univ}=> bigSep univ (starts m) : sProp 𝕄) := by
  have h1 (c : Dev nD) : iprop(unscopedBufs c (fun b => m ((c : Thread nD τ).loc b)) ∗ unscopedSems0 c
        ∗ owes (c : Thread nD τ) (Obar1 (dIn m) c) ∅ ∗ Pipeline.launchCred (Obar1 (dIn m)) c ∗ prngReg c (ρ c) ∗ G (dIn m) c)
      ⊢ (iprop(plain m c ∗ (semVal (barCell c) 0 ∗ G (dIn m) c)) : sProp 𝕄) := by
    rw [show unscopedBufs c (fun b => m ((c : Thread nD τ).loc b)) = StableHlo.held (c : Thread nD τ) (Pipeline.ucRefs τ sig) (V₀ m c)
      from Pipeline.unscopedBufs_held c (V₀ m c), unscopedSems0_eq]
    unfold plain units
    iintro ⟨Hh, Hus, HO, Hcr, Hp, HG⟩
    ihave Hu := (deal_creds (F := F) hw c) $$ Hcr
    isplitl [Hh Hu HO Hp]
    · isplitl [Hh]; · iexact Hh
      isplitl [Hu]; · iexact Hu
      isplitl [HO]; · iexact HO
      iexists (ρ c); iexact Hp
    isplitl [Hus]; · iexact Hus
    iexact HG
  have hv : bigSep univ (fun c : Dev nD => (semVal (barCell c) 0 : sProp 𝕄)) ⊢ bigSep barCells (fun g => (semVal g 0 : sProp 𝕄)) :=
    Entails.of_eq (bigSep_map (s := univ) barEmb (Φ := fun g : GSem nD τ sig => (semVal g 0 : sProp 𝕄))).symm
  have hat : bigSep barCells (fun g => (atPos ER g 0 ∅ 0 : sProp 𝕄)) ⊢ bigSep univ (fun c : Dev nD => (atPos ER (barCell c) 0 ∅ 0 : sProp 𝕄)) :=
    Entails.of_eq (bigSep_map (s := univ) barEmb (Φ := fun g : GSem nD τ sig => (atPos ER g 0 ∅ 0 : sProp 𝕄)))
  have hop : bigSep scCells (fun g => (openTok ER g : sProp 𝕄))
      ⊢ bigSep univ (fun c : Dev nD => bigSep univ fun i : Fin 10 => (openTok ER (oCell c i) : sProp 𝕄)) :=
    Entails.of_eq (by rw [bigSep_map, bigSep_univ_prod]; rfl)
  iintro ⟨H, -⟩
  ihave H := (show _ ⊢ (bigSep univ fun c : Dev nD => iprop(plain m c ∗ (semVal (barCell c) 0 ∗ G (dIn m) c)) : sProp 𝕄) from
    bigSep_mono fun c _ => h1 c) $$ H
  ihave H := both_out $$ H; icases H with ⟨HB, H⟩
  ihave H := both_out $$ H; icases H with ⟨Hv, HG⟩
  ihave Hu := (Entails.of_eq (G_all (F := F) (dIn m))) $$ HG
  imod (Rounds.fund_launch ER (Rd (xIn m) (dIn m)) disjoint_cells (fun g _ h => h) (allToks (dIn m))) $$ [Hv Hu] with ⟨%κ, -, #Hinv, #Hr, Hat, Hopen, Htok⟩
  · isplitl [Hv]
    · iapply hv $$ Hv
    · iexact Hu
  imodintro
  iapply (bigSep_with_persistent (R := recs (xIn m) (dIn m) κ) (Φ := fun c => iprop(own m c ∗ plain m c)) fun c _ => starts_intro κ c)
  isplitr
  · unfold recs
    isplitr; · iexact Hinv
    iexact Hr
  iapply both_in
  isplitr [HB]
  · unfold own
    iapply both_in; isplitl [Hat]; · iapply hat $$ Hat
    iapply both_in; isplitl [Hopen]; · iapply hop $$ Hopen
    iapply (deal_toks (F := F) (dIn m)) $$ Htok
  · iexact HB

/-- The region's arrays, one by one. -/
theorem arrays_out (c : Dev nD) : (StableHlo.held (c : Thread nD τ) (Pipeline.arrRefs (τ := τ) spec0) (V₂ m c) : sProp 𝕄)
    = iprop((((c : Thread nD τ).loc main_arg0) ↦{fullShare} V₂ m c main_arg0) ∗ (((c : Thread nD τ).loc main_arg1) ↦{fullShare} V₂ m c main_arg1)
      ∗ (((c : Thread nD τ).loc main_v8) ↦{fullShare} V₂ m c main_v8) ∗ (((c : Thread nD τ).loc main_v9) ↦{fullShare} V₂ m c main_v9)) := by
  have hs : Pipeline.arrRefs (τ := τ) spec0
      = {Proc.devRef .tc main_arg0, Proc.devRef .tc main_arg1, Proc.devRef .tc main_v8, Proc.devRef .tc main_v9} := by decide
  rw [hs]
  generalize V₂ m c = W
  unfold StableHlo.held
  rw [bigSep_insert (by decide), bigSep_insert (by decide), bigSep_insert (by decide), BI.bigSep_singleton]
  rfl

set_option backward.isDefEq.respectTransparency.types false in
include hw hc in
/-- Every fair run of the program ends: `x` and the destinations as launched, every device's result in its
    final contents, every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v9) = res m c) ∧ r.2.sem = fun _ => 0) :=
  Pipeline.θ_run_regions_kit_sems (pcfgs (F := F)) adm (pdats m) () cellOf_inj EP defs₀ 𝒱₀ L lv m ρ main (segs hw hc)
    (fun c Q => by rw [main_eq hw hc c])
    (by simp only [segs, Pipeline.Seg.pipes_host, Pipeline.Seg.pipes_region, Pipeline.Seg.pipes_nil]; decide)
    (O₀ := Obar1 (dIn m)) (hL := L_of_ne) (G := G (dIn m)) (u₀ := u₀ (F := F) (dIn m))
    (hu₀ := by
      unfold u₀
      iintro Hu
      ihave H := (ownU_pair _ _) $$ Hu
      icases H with ⟨HP, HX⟩
      imodintro
      isplitl [HP]; · iexact HP
      rw [G_all]; iexact HX)
    (T₀ := starts m) (Tₙ := ends (m := m))
    (hch := ⟨fun c => .rfl, fun c => reg0_pre hw hc c, fun c => reg0_post hw hc c⟩)
    (hinit := init ρ hw)
    (QY := fun c s => (s.mem ((c : Thread nD τ).loc main_arg0) = V₂ m c main_arg0 ∧ s.mem ((c : Thread nD τ).loc main_arg1) = V₂ m c main_arg1
      ∧ s.mem ((c : Thread nD τ).loc main_v9) = V₂ m c main_v9) ∧ s.sem (barCell c) = 0)
    (hfin := fun c s' => by
      unfold ends
      rw [arrays_out]
      iintro ⟨⟨⟨H0, H1, -, H3⟩, Hb⟩, HSI⟩
      icombine HSI H0 gives %h0
      icombine HSI H1 gives %h1
      icombine HSI H3 gives %h3
      icombine HSI Hb gives %hb
      imodintro
      isplitr
      · ipureintro
        exact ⟨⟨Buf.eq_of_forall_mem_univ h0, Buf.eq_of_forall_mem_univ h1, Buf.eq_of_forall_mem_univ h3⟩, by simpa using hb⟩
      iexact HSI)
    (hQ := fun s h hs => ⟨fun c => ⟨((h c).1.1).trans ((V₂_of_ne m c main_arg0 (by decide)).trans (V_main_arg0 m c)),
        ((h c).1.2.1).trans ((V₂_of_ne m c main_arg1 (by decide)).trans (V_main_arg1 m c)), ((h c).1.2.2).trans (V₂_v9 m c)⟩,
      sem_eq_zero hs fun c sm hsm => by
        obtain rfl := unscoped_eq sm hsm
        exact (h c).2⟩)

end Run

end Cert.KernelIdeal.Own

end
-- ==== Proof.Census.lean ====
/-
  What the precondition says of a device's destinations, and what the kernel's host side counts: every
  device is named 512 times.
-/
module

public import proofs.«01_k».proof.Proof.Region
public import proofs.«01_k».proof.Proof.Gen.Pre_balanced_Kernel
public import Idealize.ShloMosaic.Lib.IndicatorCount
public import Idealize.ShloMosaic.Lib.StableHlo.Run

@[expose] public section

noncomputable section

namespace Cert.KernelIdeal.Own

open Cert.KernelIdeal Cert.KernelIdeal.Gen
open Idealize.ShloMosaic Idealize.ShloMosaic.TcCoe
open Finset (univ)

/-! ## Counting by a sum of ones -/

/-- A sum of bits over an axis is, at each place of the result, the number of ones there. -/
theorem reduce_count {s t u : Shape} {axes : List (Fin s.rank)} (p : s.Idx → BitVec 1) (h : s.ReducesTo axes t) (hu : 0 < u.numel) (j : t.Idx) :
    Host.reduce IntOp.addi (fun i => (p i).setWidth 32) (fun _ : u.Idx => 0#32) h hu j
      = BitVec.ofNat 32 (univ.filter fun i => h.drop i = j ∧ p i = 1#1).card := by
  unfold Host.reduce
  rw [Shape.foldl_filter_rowMajor_eq_fold h.drop IntOp.addi (0#32) (fun i => (p i).setWidth 32) j, IndicatorCount.fold_addi_setWidth_eq_card, Finset.filter_filter]

/-- A bit that compares two words is one where they are equal. -/
theorem cmpi_eq_one {x y : BitVec 32} : IntOp.cmpi .eq x y = 1#1 ↔ x = y := by
  unfold IntOp.cmpi
  by_cases h : x = y
  · subst h; simp
  · have e : (x == y) = false := beq_eq_false_iff_ne.mpr h
    simp only [e, h, iff_false]
    decide

theorem vecIx_eta (i : S2048.Idx) : i = vecIx (i 0) := by
  funext a
  have : a = 0 := Subsingleton.elim _ _
  subst this
  exact Fin.ext rfl

/-- How many words of a table are `k`. -/
def times (w : S2048.Idx → BitVec 32) (k : BitVec 32) : ℕ := (univ.filter fun r : Fin 2048 => w (vecIx r) = k).card

theorem times_le (w : S2048.Idx → BitVec 32) (k : BitVec 32) : times w k ≤ 2048 :=
  (Finset.card_filter_le _ _).trans (by simp)

/-- A sum over the table that is the word 512 is 512. -/
theorem times_of_word {w : S2048.Idx → BitVec 32} {k : BitVec 32} (h : BitVec.ofNat 32 (times w k) = 512#32) : times w k = 512 := by
  have := times_le w k
  have h' := congrArg BitVec.toNat h
  rw [BitVec.toNat_ofNat, Nat.mod_eq_of_lt (by omega)] at h'
  simpa using h'

/-- Where each of the four numbers is named 512 times, the table is good. -/
theorem good_of_times {w : S2048.Idx → BitVec 32} (h : ∀ k : Fin 4, times w (BitVec.ofNat 32 k.val) = 512) : Good w := by
  have hsum : (univ.filter fun r : Fin 2048 => (w (vecIx r)).toNat < 4).card = 2048 := by
    rw [Finset.card_eq_sum_card_fiberwise (f := dests w) (t := univ) (fun _ _ => Finset.mem_coe.mpr (Finset.mem_univ _))]
    have he : ∀ k : Fin 4, ((univ.filter fun r : Fin 2048 => (w (vecIx r)).toNat < 4).filter fun r => dests w r = k).card = 512 := by
      intro k
      rw [← h k]
      unfold times
      congr 1
      ext r
      simp only [Finset.mem_filter, Finset.mem_univ, true_and]
      constructor
      · rintro ⟨h1, rfl⟩
        exact (toDev_word h1).symm
      · intro e
        have hk := k.isLt
        have ht : (w (vecIx r)).toNat = k.val := by rw [e, BitVec.toNat_ofNat, Nat.mod_eq_of_lt (by omega)]
        exact ⟨by omega, Fin.ext (by unfold dests; rw [toDev_val (by omega), ht])⟩
    rw [Finset.sum_congr rfl fun k _ => he k]
    simp
  have hall : ∀ r, (w (vecIx r)).toNat < 4 := by
    have hu := Finset.eq_univ_of_card _ (hsum.trans (Fintype.card_fin 2048).symm)
    intro r
    have : r ∈ univ.filter fun r : Fin 2048 => (w (vecIx r)).toNat < 4 := by rw [hu]; exact Finset.mem_univ r
    exact (Finset.mem_filter.mp this).2
  refine ⟨hall, fun k => ?_⟩
  rw [← h k]
  unfold times
  congr 1
  ext r
  simp only [Finset.mem_filter, Finset.mem_univ, true_and]
  have hr := hall r
  constructor
  · rintro rfl
    exact (toDev_word hr).symm
  · intro e
    have hk := k.isLt
    exact Fin.ext (by unfold dests; rw [toDev_val hr, e, BitVec.toNat_ofNat, Nat.mod_eq_of_lt (by omega)])

/-- In a good table each of the four numbers is named 512 times. -/
theorem times_of_good {w : S2048.Idx → BitVec 32} (h : Good w) (k : Fin 4) : times w (BitVec.ofNat 32 k.val) = 512 := by
  rw [← h.even k]
  unfold times
  congr 1
  ext r
  simp only [Finset.mem_filter, Finset.mem_univ, true_and]
  have hr := h.lt r
  constructor
  · intro e
    have hk := k.isLt
    exact Fin.ext (by unfold dests; rw [toDev_val hr, e, BitVec.toNat_ofNat, Nat.mod_eq_of_lt (by omega)])
  · rintro rfl
    exact (toDev_word hr).symm

/-! ## The precondition -/

/-- The number of words equal to `k`, as a sum over the table. -/
theorem sum_times {t u : Shape} {axes : List (Fin S2048.rank)} (w : S2048.Idx → BitVec 32) (k : BitVec 32) (h : S2048.ReducesTo axes t) (hu : 0 < u.numel) (j : t.Idx)
    (hj : ∀ i, h.drop i = j) :
    Host.reduce IntOp.addi (fun i => (IntOp.cmpi .eq (w i) k).setWidth 32) (fun _ : u.Idx => 0#32) h hu j = BitVec.ofNat 32 (times w k) := by
  rw [reduce_count]
  congr 1
  unfold times
  refine Finset.card_bij (fun i _ => i 0) ?_ ?_ ?_
  · intro i hi
    have := (Finset.mem_filter.mp hi).2.2
    rw [cmpi_eq_one, vecIx_eta i] at this
    exact Finset.mem_filter.mpr ⟨Finset.mem_univ _, this⟩
  · intro i _ i' _ e
    rw [vecIx_eta i, vecIx_eta i', e]
  · intro r hr
    exact ⟨vecIx r, Finset.mem_filter.mpr ⟨Finset.mem_univ _, hj _, cmpi_eq_one.mpr (Finset.mem_filter.mp hr).2⟩, Fin.ext rfl⟩

section Pre

variable {F : FTy → Type} [FloatOps F]

/-- The index of place `k` of four. -/
def four (k : Fin 4) : S4.Idx :=
  fun a => ⟨k.val, by have : a = 0 := Subsingleton.elim _ _; subst this; exact k.isLt⟩

/-- The one index of a single bit. -/
def lone : S1.Idx := fun a => ⟨0, by have : a = 0 := Subsingleton.elim _ _; subst this; decide⟩

theorem lone_eq (i : S1.Idx) : i = lone := by
  funext a
  have : a = 0 := Subsingleton.elim _ _
  subst this
  exact Fin.ext (Nat.lt_one_iff.mp (i 0).isLt)

/-- Four single bits laid one after the other, read at place `k`. -/
theorem four_bits (a b c d : IVec S1 1) (h : Shape.Concatenates [S1, S1, S1, S1] S4 0) (k : Fin 4) :
    concatenate S4 0 [⟨S1, a⟩, ⟨S1, b⟩, ⟨S1, c⟩, ⟨S1, d⟩] h (four k) = (![a, b, c, d] : Fin 4 → IVec S1 1) k lone := by
  match k with
  | ⟨0, _⟩ => exact congrArg a (lone_eq _)
  | ⟨1, _⟩ => exact congrArg b (lone_eq _)
  | ⟨2, _⟩ => exact congrArg c (lone_eq _)
  | ⟨3, _⟩ => exact congrArg d (lone_eq _)

/-- Four bits laid one after the other are all ones only if each is. -/
theorem all_four (a b c d : IVec S1 1) (h : Shape.Concatenates [S1, S1, S1, S1] S4 0)
    (e : concatenate S4 0 [⟨S1, a⟩, ⟨S1, b⟩, ⟨S1, c⟩, ⟨S1, d⟩] h = fun _ => 1#1) :
    a lone = 1#1 ∧ b lone = 1#1 ∧ c lone = 1#1 ∧ d lone = 1#1 :=
  ⟨(four_bits a b c d h 0).symm.trans (congrFun e _), (four_bits a b c d h 1).symm.trans (congrFun e _),
    (four_bits a b c d h 2).symm.trans (congrFun e _), (four_bits a b c d h 3).symm.trans (congrFun e _)⟩

/-- One bit of the precondition: the number of words equal to `k` is 512. -/
theorem word_of_bit (w : IVec S2048 32) (k : BitVec 32)
    (h : broadcastInDim S1 ![] Cert.Pre_balanced_Kernel.Facts.bcast_S_S1
      (cmpi .eq (Host.reduce IntOp.addi (extui 32 (cmpi .eq w (broadcastInDim S2048 ![] Cert.Pre_balanced_Kernel.Facts.bcast_S_S2048 (constantI S_ 32 k)))
        Cert.Pre_balanced_Kernel.Facts.natLt_1_32) (constantI S_ 32 0#32) Cert.Pre_balanced_Kernel.Facts.reducesTo_S2048_S_d0 Cert.Pre_balanced_Kernel.Facts.h_S_)
        (constantI S_ 32 512#32)) lone = 1#1) : BitVec.ofNat 32 (times w k) = 512#32 := by
  have hd (i : S2048.Idx) (j : S_.Idx) : Cert.Pre_balanced_Kernel.Facts.reducesTo_S2048_S_d0.drop i = j := funext fun a => a.elim0
  rw [← sum_times w k Cert.Pre_balanced_Kernel.Facts.reducesTo_S2048_S_d0 Cert.Pre_balanced_Kernel.Facts.h_S_ (fun a => a.elim0) (fun i => hd i _)]
  refine cmpi_eq_one.mp (Eq.trans ?_ h)
  generalize Cert.Pre_balanced_Kernel.Facts.reducesTo_S2048_S_d0 = h₁
  show IntOp.cmpi .eq (Host.reduce IntOp.addi _ _ h₁ _ _) _ = IntOp.cmpi .eq (Host.reduce IntOp.addi _ _ h₁ _ _) _
  congr 2
  funext a
  exact a.elim0

/-- Where the precondition holds of a device's blocks, its destinations are good. -/
theorem good_of_pre (x : FVec F S2048x1024 .f32) (w : IVec S2048 32)
    (h : (Cert.Pre_balanced_Kernel.fn (F := F) x w : IVec S4 1) = fun _ => 1#1) : Good w := by
  unfold Cert.Pre_balanced_Kernel.fn Cert.Pre_balanced_Kernel.fn_part1 at h
  dsimp only at h
  obtain ⟨h0, h1, h2, h3⟩ := all_four _ _ _ _ _ h
  have t0 := times_of_word (word_of_bit w _ h0)
  have t1 := times_of_word (word_of_bit w _ h1)
  have t2 := times_of_word (word_of_bit w _ h2)
  have t3 := times_of_word (word_of_bit w _ h3)
  clear h h0 h1 h2 h3
  refine good_of_times fun k => ?_
  match k with
  | ⟨0, _⟩ => exact t0
  | ⟨1, _⟩ => exact t1
  | ⟨2, _⟩ => exact t2
  | ⟨3, _⟩ => exact t3

end Pre

/-! ## The counts -/

variable {F : FTy → Type} [FloatOps F] (m : (ℓ : Loc nD τ sig) → Buf (Elt F) ℓ)

/-- The counts the kernel is entered with are all 512. -/
theorem counts_eq (c : Dev nD) (hw : Good (dIn m c)) : V m c main_v8 = counts512 := by
  have e : V m c main_v8 = Host.reduce IntOp.addi (extui 32 (cmpi .eq (broadcastInDim S2048x4 ![0, 1] bcast_S2048x1_S2048x4_0_1 (broadcastInDim S2048x1 ![0] bcast_S2048_S2048x1_0 (dIn m c)))
      (broadcastInDim S2048x4 ![0, 1] bcast_S1x4_S2048x4_0_1 (broadcastInDim S1x4 ![1] bcast_S4_S1x4_1 (iotaInDim S4 32 0)))) natLt_1_32) (constantI S_ 32 0#32) reducesTo_S2048x4_S4_d0 h_S_ := by
    show StableHlo.after hostOps0 _ (Proc.devRef .tc main_v8) = _
    after_results
  rw [e]
  generalize dIn m c = w at hw
  have e' : extui 32 (cmpi .eq (broadcastInDim S2048x4 ![0, 1] bcast_S2048x1_S2048x4_0_1 (broadcastInDim S2048x1 ![0] bcast_S2048_S2048x1_0 w))
      (broadcastInDim S2048x4 ![0, 1] bcast_S1x4_S2048x4_0_1 (broadcastInDim S1x4 ![1] bcast_S4_S1x4_1 (iotaInDim S4 32 0)))) natLt_1_32
      = fun i : S2048x4.Idx => (IntOp.cmpi .eq (w (vecIx (i 0))) (BitVec.ofNat 32 (i 1).val)).setWidth 32 := by
    funext i
    have h1 : (broadcastInDim S2048x4 ![0, 1] bcast_S2048x1_S2048x4_0_1 (broadcastInDim S2048x1 ![0] bcast_S2048_S2048x1_0 w)) i = w (vecIx (i 0)) := by
      unfold broadcastInDim
      refine congrArg w (funext fun a => ?_)
      have : a = 0 := Subsingleton.elim _ _
      subst this
      exact Fin.ext rfl
    show (IntOp.cmpi .eq ((broadcastInDim S2048x4 ![0, 1] bcast_S2048x1_S2048x4_0_1 (broadcastInDim S2048x1 ![0] bcast_S2048_S2048x1_0 w)) i) _).setWidth 32 = _
    rw [h1]
    rfl
  rw [e']
  funext j
  refine (reduce_count (fun i : S2048x4.Idx => IntOp.cmpi .eq (w (vecIx (i 0))) (BitVec.ofNat 32 (i 1).val)) reducesTo_S2048x4_S4_d0 h_S_ j).trans ?_
  have hj : times w (BitVec.ofNat 32 (j 0).val) = 512 := times_of_good hw ⟨(j 0).val, (j 0).isLt⟩
  show _ = BitVec.ofNat 32 512
  rw [← hj]
  congr 1
  unfold times
  refine Finset.card_bij (fun i _ => (⟨(i 0).val, (i 0).isLt⟩ : Fin 2048)) ?_ ?_ ?_
  · intro i hi
    obtain ⟨h1, h2⟩ := (Finset.mem_filter.mp hi).2
    rw [cmpi_eq_one] at h2
    have h3 : (i 1).val = (j 0).val := by rw [← h1]; rfl
    rw [h3] at h2
    exact Finset.mem_filter.mpr ⟨Finset.mem_univ _, h2⟩
  · intro i hi i' hi' e
    have h1 : (i 1).val = (j 0).val := by rw [← (Finset.mem_filter.mp hi).2.1]; rfl
    have h2 : (i' 1).val = (j 0).val := by rw [← (Finset.mem_filter.mp hi').2.1]; rfl
    funext a
    match a with
    | ⟨0, _⟩ => exact Fin.ext (congrArg Fin.val e)
    | ⟨1, _⟩ => exact Fin.ext (h1.trans h2.symm)
  · intro r hr
    let i : S2048x4.Idx := fun a => match a with
      | ⟨0, _⟩ => r
      | ⟨1, _⟩ => ⟨(j 0).val, (j 0).isLt⟩
    refine ⟨i, Finset.mem_filter.mpr ⟨Finset.mem_univ _, ?_, cmpi_eq_one.mpr (Finset.mem_filter.mp hr).2⟩, rfl⟩
    funext a
    have : a = 0 := Subsingleton.elim _ _
    subst this
    exact Fin.ext rfl

end Cert.KernelIdeal.Own

end
-- ==== Proof.Order.lean ====
/-
  The stable order of all rows by destination is the order in which the exchange lays them out.
-/
module

public import proofs.«01_k».proof.Proof.Data
public import Idealize.ShloMosaic.Lib.SortFacts

@[expose] public section

noncomputable section

namespace Cert.KernelIdeal.Own

open Idealize.ShloMosaic

/-! ## Rows of the whole array -/

/-- Row `r` of block `z`, as a row of the whole. -/
def joinRow (z : Fin 4) (r : Fin 2048) : Fin 8192 :=
  ⟨2048 * z.val + r.val, by have := z.isLt; have := r.isLt; omega⟩

/-- The block of a row of the whole, -/
def blockOf (s : Fin 8192) : Fin 4 := ⟨s.val / 2048, by have := s.isLt; omega⟩
/-- and its row there. -/
def rowOf (s : Fin 8192) : Fin 2048 := ⟨s.val % 2048, Nat.mod_lt _ (by decide)⟩

theorem joinRow_eta (s : Fin 8192) : joinRow (blockOf s) (rowOf s) = s :=
  Fin.ext (Nat.div_add_mod s.val 2048)
theorem blockOf_join (z : Fin 4) (r : Fin 2048) : blockOf (joinRow z r) = z :=
  Fin.ext (by have := r.isLt; show (2048 * z.val + r.val) / 2048 = z.val; omega)
theorem rowOf_join (z : Fin 4) (r : Fin 2048) : rowOf (joinRow z r) = r :=
  Fin.ext (by have := r.isLt; show (2048 * z.val + r.val) % 2048 = r.val; omega)

/-! ## The order -/

variable (d : Fin 4 → Fin 2048 → Fin 4)

/-- Where the exchange lays a row of the whole: its block is its destination, its row there where it lands. -/
def layRow (s : Fin 8192) : Fin 8192 := joinRow (d (blockOf s) (rowOf s)) (landF d (blockOf s) (rowOf s))

/-- The row of the whole laid at a place. -/
def laidRow (p : Fin 8192) : Fin 8192 := joinRow (fromDev (rowOf p)) (rowAt d (blockOf p) (rowOf p))

variable {d} (h : ∀ z, Even (d z))
include h

/-- Every row is laid at one place, every place has one row: the layout as a permutation, place to row. -/
def layout : Equiv.Perm (Fin 8192) where
  toFun := laidRow d
  invFun := layRow d
  left_inv p := by
    unfold layRow laidRow
    rw [blockOf_join, rowOf_join, rowAt_dest h, landF_rowAt h, joinRow_eta]
  right_inv s := by
    unfold layRow laidRow
    rw [blockOf_join, rowOf_join, landF_fromDev h, rowAt_landF h, joinRow_eta]

/-- A row with a smaller destination, or with the same and earlier, is laid earlier. -/
theorem lay_lt {s t : Fin 8192}
    (e : (d (blockOf s) (rowOf s)).val < (d (blockOf t) (rowOf t)).val ∨ (d (blockOf s) (rowOf s)).val = (d (blockOf t) (rowOf t)).val ∧ s.val < t.val) :
    (layRow d s).val < (layRow d t).val := by
  show 2048 * (d (blockOf s) (rowOf s)).val + (landF d (blockOf s) (rowOf s)).val
    < 2048 * (d (blockOf t) (rowOf t)).val + (landF d (blockOf t) (rowOf t)).val
  have hs := (landF d (blockOf s) (rowOf s)).isLt
  rcases e with e | ⟨e, hst⟩
  · omega
  · rw [landF_val h, landF_val h]
    unfold land
    have rs := rank_lt (h (blockOf s)) (rowOf s)
    have hb : (blockOf s).val ≤ (blockOf t).val := Nat.div_le_div_right hst.le
    rcases Nat.lt_or_ge (blockOf s).val (blockOf t).val with hlt | hge
    · omega
    · have hb' : blockOf s = blockOf t := Fin.ext (by omega)
      have hr : rowOf s < rowOf t := by
        have h1 : 2048 * (blockOf s).val + (rowOf s).val = s.val := Nat.div_add_mod s.val 2048
        have h2 : 2048 * (blockOf t).val + (rowOf t).val = t.val := Nat.div_add_mod t.val 2048
        show (rowOf s).val < (rowOf t).val
        rw [hb'] at h1
        omega
      have hd : d (blockOf t) (rowOf s) = d (blockOf t) (rowOf t) := by rw [hb'] at e; exact Fin.ext e
      have := rank_lt_rank hd hr
      rw [hb']
      omega

/-- Which of two rows is laid first. -/
theorem lay_lt_iff (s t : Fin 8192) :
    layRow d s < layRow d t ↔ (d (blockOf s) (rowOf s)).val < (d (blockOf t) (rowOf t)).val
      ∨ (d (blockOf s) (rowOf s)).val = (d (blockOf t) (rowOf t)).val ∧ s.val < t.val := by
  refine ⟨fun hl => ?_, fun e => lay_lt h e⟩
  by_contra hn
  have hl' : (layRow d s).val < (layRow d t).val := hl
  rcases Nat.lt_trichotomy s.val t.val with hst | hst | hst
  · have := lay_lt h (s := t) (t := s) (Or.inl (by omega))
    omega
  · have : s = t := Fin.ext hst
    subst this
    omega
  · have := lay_lt h (s := t) (t := s) (by omega)
    omega

omit h in
/-- A stable sort of a list in which each element comes before the later ones only ever asks whether a later
    element sorts before an earlier one. -/
theorem stableSort_later {ι : Type} (R R' : ι → ι → Bool) (l : List ι) (hl : l.Pairwise fun a b => R b a = R' b a) :
    stableSort R l = stableSort R' l := by
  induction l with
  | nil => rfl
  | cons a l ih =>
    rw [List.pairwise_cons] at hl
    unfold stableSort
    rw [ih hl.2]
    exact insertBefore_congr R R' a _ fun b hb => hl.1 b ((perm_stableSort R' l).mem_iff.mp hb)

omit h in
/-- If the sorted positions are listed by a permutation, the one at a place is the permutation's value there. -/
theorem sortedFrom_of {n : Nat} {R : Fin n → Fin n → Bool} {σ : Equiv.Perm (Fin n)} (hσ : sortPositions n R = List.ofFn σ) (p : Fin n) :
    sortedFrom R p = σ p := by
  unfold sortedFrom
  rw [List.get_of_eq hσ]
  simp

/-- Sorted by destination, stably, the rows come in the order of the layout. -/
theorem sorted_layout (p : Fin 8192) :
    sortedFrom (fun s t => decide ((d (blockOf s) (rowOf s)).val < (d (blockOf t) (rowOf t)).val)) p = laidRow d p := by
  have hσ : sortPositions 8192 (fun s t => decide ((d (blockOf s) (rowOf s)).val < (d (blockOf t) (rowOf t)).val)) = List.ofFn (layout h) := by
    rw [← sortPositions_of_perm (layout h)]
    refine stableSort_later _ _ _ ((List.pairwise_lt_finRange 8192).imp fun {a b} hab => ?_)
    refine decide_eq_decide.mpr (Iff.trans ?_ (lay_lt_iff h b a).symm)
    have : a.val < b.val := hab
    omega
  exact sortedFrom_of hσ p

end Cert.KernelIdeal.Own

end
-- ==== Proof.Reference.lean ====
/-
  The reference read: its result is the array whose blocks are the exchange's results.
-/
module

public import proofs.«01_k».proof.Proof.Order
public import proofs.«01_k».proof.Proof.Cells
public import proofs.«01_k».proof.Proof.Gen.ReferenceIdeal
public import Idealize.ShloMosaic.Lib.Routing.Ops
public import Idealize.ShloMosaic.Lib.Layout

@[expose] public section

noncomputable section

namespace Cert.KernelIdeal.Own

open Idealize.ShloMosaic Idealize.ShloMosaic.ValueIdx

/-! ## Sorting a table by its words -/

/-- Two small words compare, signed, as their numbers do. -/
theorem slt_small {n : Nat} {a b : BitVec 32} (hn : n ≤ 2 ^ 31) (ha : a.toNat < n) (hb : b.toNat < n) :
    (IntOp.cmpi .slt a b == 1#1) = decide (a.toNat < b.toNat) := by
  have h : a.slt b = decide (a.toNat < b.toNat) := by
    unfold BitVec.slt
    rw [BitVec.toInt_eq_toNat_of_lt (by omega), BitVec.toInt_eq_toNat_of_lt (by omega)]
    exact decide_eq_decide.mpr Int.ofNat_lt
  show (BitVec.ofBool (a.slt b) == 1#1) = _
  rw [h]
  by_cases e : a.toNat < b.toNat <;> simp [e]

/-- The positions of a table carried along by a stable sort of it: at `p`, the position sorted there. -/
theorem argsort_at {n : Nat} (cmp : BitVec 32 × BitVec 32 → BitVec 32 × BitVec 32 → BitVec 1) (x : IVec ⟨1, ![n]⟩ 32) (K : Fin n → Nat)
    (hK : ∀ a b (u v : BitVec 32), (cmp (x (.ofFin a), u) (x (.ofFin b), v) == 1#1) = decide (K a < K b)) (p : Fin n) :
    (Host.sort2 ⟨1, ![n]⟩ 0 cmp x (iotaInDim ⟨1, ![n]⟩ 32 0)).2 (.ofFin p)
      = BitVec.ofNat 32 (sortedFrom (fun a b => decide (K a < K b)) p).val := by
  unfold Host.sort2
  rw [dif_pos (show (0 : Nat) < (⟨1, ![n]⟩ : Shape).rank from Nat.zero_lt_one)]
  have e : ∀ (j : (⟨1, ![n]⟩ : Shape).Idx) (c : Fin n), j.along (⟨0, Nat.zero_lt_one⟩ : Fin (⟨1, ![n]⟩ : Shape).rank) c = .ofFin c :=
    fun j c => Shape.Idx.along_rank1 j c
  have hf : (fun a b : Fin n => cmp (x ((Shape.Idx.ofFin p : (⟨1, ![n]⟩ : Shape).Idx).along ⟨0, Nat.zero_lt_one⟩ a), iotaInDim ⟨1, ![n]⟩ 32 0 ((Shape.Idx.ofFin p : (⟨1, ![n]⟩ : Shape).Idx).along ⟨0, Nat.zero_lt_one⟩ a))
      (x ((Shape.Idx.ofFin p : (⟨1, ![n]⟩ : Shape).Idx).along ⟨0, Nat.zero_lt_one⟩ b), iotaInDim ⟨1, ![n]⟩ 32 0 ((Shape.Idx.ofFin p : (⟨1, ![n]⟩ : Shape).Idx).along ⟨0, Nat.zero_lt_one⟩ b)) == 1#1)
        = fun a b => decide (K a < K b) := by
    funext a b
    rw [e, e]
    exact hK a b _ _
  have hs := congrFun (congrArg (fun R : Fin n → Fin n → Bool => sortedFrom R) hf) p
  refine (congrArg (fun c : Fin n => iotaInDim ⟨1, ![n]⟩ 32 0 ((Shape.Idx.ofFin p : (⟨1, ![n]⟩ : Shape).Idx).along (⟨0, Nat.zero_lt_one⟩ : Fin (⟨1, ![n]⟩ : Shape).rank) c)) hs).trans ?_
  show iotaInDim ⟨1, ![n]⟩ 32 0 ((Shape.Idx.ofFin p : (⟨1, ![n]⟩ : Shape).Idx).along _ _) = _
  rw [e]
  rfl

/-- Counting from the end where a position is negative: a position that is not is left alone. -/
theorem wrapped {n : Nat} {t : Shape} (O zero len : IVec t 32) (i : t.Idx) (a : Fin n) (hn : n ≤ 2 ^ 31)
    (hO : O i = BitVec.ofNat 32 a.val) (hz : zero i = 0#32) : select (cmpi .slt O zero) (addi O len) O i = BitVec.ofNat 32 a.val := by
  have ha : (BitVec.ofNat 32 a.val).toNat < n := by
    rw [BitVec.toNat_ofNat, Nat.mod_eq_of_lt (by have := a.isLt; omega)]
    exact a.isLt
  have h0 : (IntOp.cmpi .slt (BitVec.ofNat 32 a.val) 0#32 == 1#1) = false := by
    rw [slt_small hn ha (by show 0 < n; exact Nat.lt_of_le_of_lt (Nat.zero_le _) a.isLt)]
    simp
  have h1 : cmpi .slt O zero i ≠ 1#1 := by
    show IntOp.cmpi .slt (O i) (zero i) ≠ 1#1
    rw [hO, hz]
    exact beq_eq_false_iff_ne.mp h0
  refine Eq.trans ?_ hO
  unfold select
  exact if_neg h1

/-! ## The two layouts -/

section Whole

variable {F : FTy → Type} [FloatOps F]
variable (X : (⟨2, ![8192, 1024]⟩ : Shape).Idx → Elt F .f32) (D : IVec ⟨1, ![8192]⟩ 32)

/-- Device `z`'s block of the rows, -/
abbrev xBlock (z : Fin 4) : (⟨2, ![2048, 1024]⟩ : Shape).Idx → Elt F .f32 := Layout.block ⟨2, ![2048, 1024]⟩ ⟨2, ![8192, 1024]⟩ 0 4 z X
/-- and of the destinations. -/
abbrev dBlock (z : Fin 4) : IVec ⟨1, ![2048]⟩ 32 := Layout.block ⟨1, ![2048]⟩ ⟨1, ![8192]⟩ 0 4 z D

/-- Entry `r` of a block of the destinations is the whole's at that block's row `r`. -/
theorem dBlock_at (z : Fin 4) (r : Fin 2048) : dBlock D z (vecIx r) = D (.ofFin (joinRow z r)) := by
  refine congrArg D (funext fun a => ?_)
  have : a = 0 := Subsingleton.elim _ _
  subst this
  exact Fin.ext (by show z.val * 2048 + r.val = 2048 * z.val + r.val; omega)

/-- Entry `(r, y)` of a block of the rows is the whole's at that block's row `r`. -/
theorem xBlock_at (z : Fin 4) (i : (⟨2, ![2048, 1024]⟩ : Shape).Idx) : xBlock X z i = X (ix2 (joinRow z (i 0)) (i 1)) := by
  refine congrArg X (funext fun a => ?_)
  match a with
  | ⟨0, _⟩ => exact Fin.ext (by show z.val * 2048 + (i 0).val = 2048 * z.val + (i 0).val; omega)
  | ⟨1, _⟩ => rfl

variable {D} (hD : ∀ z, Good (dBlock D z))
include hD

/-- The word of a row of the whole is the device it goes to. -/
theorem word_dest (s : Fin 8192) : (D (.ofFin s)).toNat = (dst (dBlock D) (blockOf s) (rowOf s)).val := by
  have h := toDev_val ((hD (blockOf s)).lt (rowOf s))
  rw [dBlock_at, joinRow_eta] at h
  rw [← h]
  unfold dst dests
  rw [dBlock_at, joinRow_eta]

/-- The destinations of the whole, sorted stably with their positions: at `p`, the row laid there. -/
theorem argsort_dest (p : Fin 8192) :
    (Host.sort2 ⟨1, ![8192]⟩ 0 Cert.ReferenceIdeal.comparator_i32_i32_d0 D (iotaInDim ⟨1, ![8192]⟩ 32 0)).2 (.ofFin p)
      = BitVec.ofNat 32 (laidRow (dst (dBlock D)) p).val := by
  rw [argsort_at (K := fun s : Fin 8192 => (dst (dBlock D) (blockOf s) (rowOf s)).val), sorted_layout fun z => (hD z).even]
  intro a b u v
  refine (slt_small (n := 4) (by decide) ?_ ?_).trans ?_
  · show (D (.ofFin a)).toNat < 4
    rw [word_dest hD]
    exact Fin.isLt _
  · show (D (.ofFin b)).toNat < 4
    rw [word_dest hD]
    exact Fin.isLt _
  · show decide ((D (.ofFin a)).toNat < (D (.ofFin b)).toNat) = _
    rw [word_dest hD, word_dest hD]

end Whole

/-! ## The reference's result -/

section Result

open Cert.ReferenceIdeal Cert.ReferenceIdeal.Gen

variable {F : FTy → Type} [FloatOps F]

/-- The order of the rows as the reference asks for it. -/
abbrev orderOf (D : IVec S8192 32) : IVec S8192 32 := (Host.sort2 S8192 0 comparator_i32_i32_d0 D (iotaInDim S8192 32 0)).2

/-- The positions the reference reads its rows at. -/
abbrev readAt (D : IVec S8192 32) : IVec S8192x1 32 :=
  broadcastInDim S8192x1 ![0] bcast_S8192_S8192x1_0 (select (cmpi .slt (orderOf D) (broadcastInDim S8192 ![] bcast_S_S8192 (constantI S_ 32 0#32))) (addi (orderOf D) (broadcastInDim S8192 ![] bcast_S_S8192 (constantI S_ 32 8192#32))) (orderOf D))

/-- The reference's result of rows `X` and destinations `D`. -/
abbrev refOut (X : FVec F S8192x1024 .f32) (D : IVec S8192 32) : FVec F S8192x1024 .f32 :=
  Host.gather gather_S8192x1024_S8192x1_S8192x1024_1_0_n_n_0_1_11024 X (readAt D)

variable (X : FVec F S8192x1024 .f32) {D : IVec S8192 32} (hD : ∀ z, Good (dBlock D z))
include hD

/-- The reference reads its row `p` at the row laid there. -/
theorem readAt_at (p : Fin 8192) : readAt D (ix2 p (0 : Fin 1)) = BitVec.ofNat 32 (laidRow (dst (dBlock D)) p).val := by
  have hO := argsort_dest hD p
  unfold readAt
  rw [broadcastInDim_apply ![0] bcast_S8192_S8192x1_0 _ (ix2 p (0 : Fin 1)) (.ofFin p) (fun a => by
    have : a = 0 := Subsingleton.elim _ _
    subst this
    rfl)]
  exact wrapped _ _ _ _ _ (by decide) hO rfl

/-- Row `p` of the reference's result is the row laid there. -/
theorem refOut_at (p : Fin 8192) (y : Fin 1024) : refOut X D (ix2 p y) = X (ix2 (laidRow (dst (dBlock D)) p) y) :=
  Routing.gather_row _ rfl rfl rfl rfl rfl X _ p y _ (readAt_at hD p) (by decide)

/-- Each block of the reference's result is what the exchange leaves on that device. -/
theorem block_refOut (c : Fin 4) : xBlock (refOut X D) c = outF (xBlock X) (dBlock D) c := by
  have key : ∀ (r : Fin 2048) (y : Fin 1024), xBlock (refOut X D) c (ix2 r y) = outF (xBlock X) (dBlock D) c (ix2 r y) := fun r y => by
    refine (xBlock_at _ c (ix2 r y)).trans ((refOut_at X hD (joinRow c r) y).trans ?_)
    refine Eq.trans ?_ (xBlock_at X (fromDev r) (rcIx (rowAt (dst (dBlock D)) c r) y)).symm
    unfold laidRow
    rw [blockOf_join, rowOf_join]
    rfl
  funext i
  exact (congrArg _ (eq_ix2 i)).trans ((key _ _).trans (congrArg _ (eq_ix2 i).symm))

end Result

end Cert.KernelIdeal.Own

end
-- ==== Proof.lean ====
/-
  The certificate: the all-to-all kernel ends cleanly, as printed and idealized, and on the real numbers its
  result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_balanced_Kernel
public import proofs.«01_k».proof.Proof.Gen.Pre_balanced_ReferenceIdeal
public import proofs.«01_k».proof.Proof.Launch
public import proofs.«01_k».proof.Proof.Census
public import proofs.«01_k».proof.Proof.Reference

@[expose] public section

noncomputable section

namespace Cert.Proof

open Idealize.ShloMosaic Idealize.SL.Sem
open Cert.KernelIdeal.Own

/-- Under the precondition of every device, a launch of the program ends: arguments unchanged, every device's
    result in its final contents, every counter at zero. -/
theorem run_pre {F : FTy → Type} [FloatOps F] (m : (ℓ : Loc Cert.KernelIdeal.nD Cert.KernelIdeal.τ Cert.KernelIdeal.sig) → Buf (Elt F) ℓ)
    (ρ : Dev Cert.KernelIdeal.nD → PrngReg) (hw : ∀ z, Good (dIn m z)) :
    θ_run (Cert.KernelIdeal.defs (F := F)) (onTc (τ := Cert.KernelIdeal.τ) (Cert.KernelIdeal.main (F := F))) ⟨m, fun _ => 0, ρ⟩
      (fun r => (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_v9) = res m c) ∧ r.2.sem = fun _ => 0) :=
  run_main ρ hw fun c => counts_eq m c (hw c)

/-- The idealized program ends cleanly. -/
theorem frame_ideal : Cert.quiescent_KernelIdeal := fun m g h =>
  (θ_run _ _ _).mono (fun _ hr => ⟨fun c => ⟨(hr.1 c).1, (hr.1 c).2.1⟩, hr.2⟩)
    (run_pre m g fun z => good_of_pre _ _ (h z))

/-- No operation was rewritten: the printed program's body is the idealized one's, -/
theorem same_bodies : Cert.Kernel.defs₀ (F := Bits) = Cert.KernelIdeal.defs₀ (F := Bits) := by
  unfold Cert.Kernel.defs₀ Cert.KernelIdeal.defs₀
  refine congrArg Defs.onTc ?_
  funext ℓ a
  match ℓ, a with
  | ⟨0, _⟩, (t, s) => rfl

/-- so is its table of bodies, -/
theorem same_defs : Cert.Kernel.defs (F := Bits) = Cert.KernelIdeal.defs (F := Bits) :=
  congrArg (Pipeline.defs Cert.KernelIdeal.pcfgs) same_bodies

/-- and its text on each device. -/
theorem same_main : Cert.Kernel.main (F := Bits) = Cert.KernelIdeal.main (F := Bits) := rfl

/-- The program as printed ends cleanly. -/
theorem frame_kernel : Cert.quiescent_Kernel := fun m g h => by
  have run := run_pre (F := Bits) m g fun z => good_of_pre _ _ (h z)
  rw [same_defs, same_main]
  exact (θ_run Cert.KernelIdeal.defs _ _).mono (fun _ hr => ⟨fun c => ⟨(hr.1 c).1, (hr.1 c).2.1⟩, hr.2⟩) run

/-- The reference ends cleanly, -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- also where the precondition holds. -/
theorem frame_ref_pre : Cert.quiescent_ReferenceIdeal_pre_balanced_ReferenceIdeal := fun m g _ => frame_ref m g trivial

/-- On the real numbers: launched on the blocks of one array of rows and one of destinations, the program leaves
    on each device that device's block of what the reference leaves. -/
theorem algebraic : Cert.algebraic_KernelIdeal_ReferenceIdeal := fun m g m' g' h hio => by
  have hw : ∀ z, Good (dIn m z) := fun z => good_of_pre _ _ (h z)
  have hx : xIn m = xBlock (F := Ideal) (m' (((0 : Dev Cert.ReferenceIdeal.nD).tc : Thread Cert.ReferenceIdeal.nD Cert.ReferenceIdeal.τ).loc Cert.ReferenceIdeal.main_arg0)) := funext fun z => (hio z).1
  have hd : dIn m = dBlock (m' (((0 : Dev Cert.ReferenceIdeal.nD).tc : Thread Cert.ReferenceIdeal.nD Cert.ReferenceIdeal.τ).loc Cert.ReferenceIdeal.main_arg1)) := funext fun z => (hio z).2
  refine ⟨_, (θ_run _ _ _).mono (fun _ hr c => ⟨(hr.1 c).2.2.trans ?_, (hr.1 c).1, (hr.1 c).2.1⟩) (run_pre m g hw),
    (θ_run _ _ _).mono (fun _ hr => hr 0) (Cert.ReferenceIdeal.Value.run m' g')⟩
  show outF (xIn m) (dIn m) c = _
  rw [hd] at hw
  rw [hx, hd]
  exact (block_refOut _ hw c).symm

/-- Everything the certificate claims. -/
theorem claim : Cert.Claim :=
  ⟨Cert.Kernel.Gen.facts, Cert.KernelIdeal.Gen.facts, Cert.ReferenceIdeal.Gen.facts, Cert.Pre_balanced_Kernel.Gen.facts,
    Cert.Pre_balanced_ReferenceIdeal.Gen.facts, frame_kernel, frame_ideal, frame_ref, frame_ref_pre, trivial, algebraic⟩

end Cert.Proof

end
